-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_named_alike [hKernelIdeal : Cert.KernelIdeal.Facts] [hReferenceIdeal : Cert.ReferenceIdeal.Facts] [hPre_idx_in_range : Cert.Pre_idx_in_range.Facts] [hOn_named_alike : Cert.On_named_alike.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          (∀ i : (⟨4, ![4, 192, 192, 192]⟩ : Shape).Idx, (Cert.On_named_alike.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v6) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 192, 192, 192]⟩ : Shape).Idx, (Cert.On_named_alike.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v20) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_idx_in_range : Cert.Pre_idx_in_range.Facts) (hOn_named_alike : Cert.On_named_alike.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ preserves_Kernel_KernelIdeal
    ∧ algebraic_KernelIdeal_ReferenceIdeal_on_named_alike (hKernelIdeal := hKernelIdeal) (hReferenceIdeal := hReferenceIdeal) (hPre_idx_in_range := hPre_idx_in_range) (hOn_named_alike := hOn_named_alike)
-- ==== On_named_alike.lean ====
abbrev S4x192x96x96 : Shape := ⟨4, ![4, 192, 96, 96]⟩
abbrev S4x192x192x192 : Shape := ⟨4, ![4, 192, 192, 192]⟩
abbrev S768x9216 : Shape := ⟨2, ![768, 9216]⟩
abbrev S768 : Shape := ⟨1, ![768]⟩
abbrev S768x1 : Shape := ⟨2, ![768, 1]⟩
abbrev S_ : Shape := ⟨0, ![]⟩
abbrev S768x36864 : Shape := ⟨2, ![768, 36864]⟩
abbrev S768x9216x1 : Shape := ⟨3, ![768, 9216, 1]⟩
abbrev S768x9216x2 : Shape := ⟨3, ![768, 9216, 2]⟩

class Facts : Prop where
  shapeCasts_S4x192x96x96_S768x9216 : S4x192x96x96.ShapeCasts S768x9216
  bcast_S768_S768x1_0 : S768.BroadcastsInDim S768x1 (![0] : Fin 1 → Fin S768x1.rank)
  bcast_S_S768x36864 : S_.BroadcastsInDim S768x36864 (![] : Fin 0 → Fin S768x36864.rank)
  bcast_S_S768x1 : S_.BroadcastsInDim S768x1 (![] : Fin 0 → Fin S768x1.rank)
  bcast_S_S768x9216 : S_.BroadcastsInDim S768x9216 (![] : Fin 0 → Fin S768x9216.rank)
  bcast_S768x1_S768x9216_0_1 : S768x1.BroadcastsInDim S768x9216 (![0, 1] : Fin 2 → Fin S768x9216.rank)
  bcast_S768x9216_S768x9216x1_0_1 : S768x9216.BroadcastsInDim S768x9216x1 (![0, 1] : Fin 2 → Fin S768x9216x1.rank)
  concatenates_S768x9216x1_S768x9216x1_S768x9216x2_d2 : Shape.Concatenates [S768x9216x1, S768x9216x1] S768x9216x2 2
  natLt_1_32 : 1 < 32
  shapeCasts_S768x36864_S4x192x192x192 : S768x36864.ShapeCasts S4x192x192x192
  bcast_S_S4x192x192x192 : S_.BroadcastsInDim S4x192x192x192 (![] : Fin 0 → Fin S4x192x192x192.rank)
  scatter_S768x36864_S768x9216x2_S768x9216_n_01_01_2_wf : ScatterDims.WF S768x36864 S768x9216x2 S768x9216 [] [0, 1] [0, 1] 2
  gather_S768x36864_S768x9216x2_S768x9216_n_01_n_n_01_2_11_wf : GatherDims.WF S768x36864 S768x9216x2 S768x9216 [] [0, 1] [] [0, 1] [] 2 ![1, 1]

variable [Facts]

def scatter_S768x36864_S768x9216x2_S768x9216_n_01_01_2 : ScatterDims S768x36864 S768x9216x2 S768x9216 where
  updateWindowDims := []
  insertedWindowDims := [0, 1]
  scatterDimsToOperandDims := [0, 1]
  indexVectorDim := 2
  wf := scatter_S768x36864_S768x9216x2_S768x9216_n_01_01_2_wf
def gather_S768x36864_S768x9216x2_S768x9216_n_01_n_n_01_2_11 : GatherDims S768x36864 S768x9216x2 S768x9216 where
  offsetDims := []
  collapsedSliceDims := [0, 1]
  operandBatchingDims := []
  startIndicesBatchingDims := []
  startIndexMap := [0, 1]
  indexVectorDim := 2
  sliceSizes := ![1, 1]
  wf := gather_S768x36864_S768x9216x2_S768x9216_n_01_n_n_01_2_11_wf
def fn_left_at {F : FTy → Type} [FloatOps F] (arg0 : FVec F S768x36864 .f32) (arg1 : IVec S768x1 32) (arg2 : IVec S768x9216 32) : FVec F S768x9216 .f32 :=
  let c : IVec S_ 32 := constantI S_ 32 0#32
  let v0 : IVec S768x1 32 := broadcastInDim S768x1 ![] bcast_S_S768x1 c
  let v1 : IVec S768x1 1 := cmpi .slt arg1 v0
  let c_0 : IVec S_ 32 := constantI S_ 32 768#32
  let v2 : IVec S768x1 32 := broadcastInDim S768x1 ![] bcast_S_S768x1 c_0
  let v3 : IVec S768x1 32 := addi arg1 v2
  let v4 : IVec S768x1 32 := select v1 v3 arg1
  let c_1 : IVec S_ 32 := constantI S_ 32 0#32
  let v5 : IVec S768x9216 32 := broadcastInDim S768x9216 ![] bcast_S_S768x9216 c_1
  let v6 : IVec S768x9216 1 := cmpi .slt arg2 v5
  let c_2 : IVec S_ 32 := constantI S_ 32 36864#32
  let v7 : IVec S768x9216 32 := broadcastInDim S768x9216 ![] bcast_S_S768x9216 c_2
  let v8 : IVec S768x9216 32 := addi arg2 v7
  let v9 : IVec S768x9216 32 := select v6 v8 arg2
  let v10 : IVec S768x9216 32 := broadcastInDim S768x9216 ![0, 1] bcast_S768x1_S768x9216_0_1 v4
  let v11 : IVec S768x9216x1 32 := broadcastInDim S768x9216x1 ![0, 1] bcast_S768x9216_S768x9216x1_0_1 v10
  let v12 : IVec S768x9216x1 32 := broadcastInDim S768x9216x1 ![0, 1] bcast_S768x9216_S768x9216x1_0_1 v9
  let v13 : IVec S768x9216x2 32 := (fun a b => concatenate S768x9216x2 2 [⟨S768x9216x1, a⟩, ⟨S768x9216x1, b⟩] concatenates_S768x9216x1_S768x9216x1_S768x9216x2_d2) v11 v12
  let v14 : FVec F S768x9216 .f32 := (fun x i => Host.gather gather_S768x36864_S768x9216x2_S768x9216_n_01_n_n_01_2_11 x i) arg0 v13
  v14

def fn_part2 {F : FTy → Type} [FloatOps F] (main_v22 : IVec S768x9216 32) (main_v23 : IVec S768x36864 32) (main_v37 : IVec S768x9216x2 32) : IVec S4x192x192x192 1 :=
  let main_v38 : IVec S768x36864 32 := (fun x i u => Host.scatter scatter_S768x36864_S768x9216x2_S768x9216_n_01_01_2 IntOp.addi x i u) main_v23 main_v37 main_v22
  let main_v39 : IVec S4x192x192x192 32 := shapeCast S4x192x192x192 main_v38 shapeCasts_S768x36864_S4x192x192x192
  let main_c_8 : IVec S_ 32 := constantI S_ 32 0#32
  let main_v40 : IVec S4x192x192x192 32 := broadcastInDim S4x192x192x192 ![] bcast_S_S4x192x192x192 main_c_8
  let main_v41 : IVec S4x192x192x192 1 := cmpi .eq main_v39 main_v40
  main_v41

def fn_part1 {F : FTy → Type} [FloatOps F] (main_v0 : FVec F S768x9216 .f32) (main_v1 : IVec S768x9216 32) (main_v3 : IVec S768x1 32) (main_v4 : FVec F S768x36864 .f32) (main_v18 : IVec S768x9216x2 32) : IVec S4x192x192x192 1 :=
  let main_v19 : FVec F S768x36864 .f32 := (fun x i u => Host.scatter scatter_S768x36864_S768x9216x2_S768x9216_n_01_01_2 (fun _ b => b) x i u) main_v4 main_v18 main_v0
  let main_v20 : FVec F S768x9216 .f32 := fn_left_at (F := F) main_v19 main_v3 main_v1
  let main_v21 : IVec S768x9216 1 := cmpf .une main_v20 main_v0
  let main_v22 : IVec S768x9216 32 := (extui 32 · natLt_1_32) main_v21
  let main_c_3 : IVec S_ 32 := constantI S_ 32 0#32
  let main_v23 : IVec S768x36864 32 := broadcastInDim S768x36864 ![] bcast_S_S768x36864 main_c_3
  let main_c_4 : IVec S_ 32 := constantI S_ 32 0#32
  let main_v24 : IVec S768x1 32 := broadcastInDim S768x1 ![] bcast_S_S768x1 main_c_4
  let main_v25 : IVec S768x1 1 := cmpi .slt main_v3 main_v24
  let main_c_5 : IVec S_ 32 := constantI S_ 32 768#32
  let main_v26 : IVec S768x1 32 := broadcastInDim S768x1 ![] bcast_S_S768x1 main_c_5
  let main_v27 : IVec S768x1 32 := addi main_v3 main_v26
  let main_v28 : IVec S768x1 32 := select main_v25 main_v27 main_v3
  let main_c_6 : IVec S_ 32 := constantI S_ 32 0#32
  let main_v29 : IVec S768x9216 32 := broadcastInDim S768x9216 ![] bcast_S_S768x9216 main_c_6
  let main_v30 : IVec S768x9216 1 := cmpi .slt main_v1 main_v29
  let main_c_7 : IVec S_ 32 := constantI S_ 32 36864#32
  let main_v31 : IVec S768x9216 32 := broadcastInDim S768x9216 ![] bcast_S_S768x9216 main_c_7
  let main_v32 : IVec S768x9216 32 := addi main_v1 main_v31
  let main_v33 : IVec S768x9216 32 := select main_v30 main_v32 main_v1
  let main_v34 : IVec S768x9216 32 := broadcastInDim S768x9216 ![0, 1] bcast_S768x1_S768x9216_0_1 main_v28
  let main_v35 : IVec S768x9216x1 32 := broadcastInDim S768x9216x1 ![0, 1] bcast_S768x9216_S768x9216x1_0_1 main_v34
  let main_v36 : IVec S768x9216x1 32 := broadcastInDim S768x9216x1 ![0, 1] bcast_S768x9216_S768x9216x1_0_1 main_v33
  let main_v37 : IVec S768x9216x2 32 := (fun a b => concatenate S768x9216x2 2 [⟨S768x9216x1, a⟩, ⟨S768x9216x1, b⟩] concatenates_S768x9216x1_S768x9216x1_S768x9216x2_d2) main_v35 main_v36
  fn_part2 (F := F) main_v22 main_v23 main_v37

def fn {F : FTy → Type} [FloatOps F] (main_arg0 : FVec F S4x192x96x96 .f32) (main_arg1 : IVec S4x192x96x96 32) (main_arg2 : FVec F S4x192x192x192 .f32) : IVec S4x192x192x192 1 :=
  let main_v0 : FVec F S768x9216 .f32 := shapeCast S768x9216 main_arg0 shapeCasts_S4x192x96x96_S768x9216
  let main_v1 : IVec S768x9216 32 := shapeCast S768x9216 main_arg1 shapeCasts_S4x192x96x96_S768x9216
  let main_v2 : IVec S768 32 := iotaInDim S768 32 0
  let main_v3 : IVec S768x1 32 := broadcastInDim S768x1 ![0] bcast_S768_S768x1_0 main_v2
  let main_cst : FVec F S_ .f32 := constant S_ .f32 0x00000000#32
  let main_v4 : FVec F S768x36864 .f32 := broadcastInDim S768x36864 ![] bcast_S_S768x36864 main_cst
  let main_c : IVec S_ 32 := constantI S_ 32 0#32
  let main_v5 : IVec S768x1 32 := broadcastInDim S768x1 ![] bcast_S_S768x1 main_c
  let main_v6 : IVec S768x1 1 := cmpi .slt main_v3 main_v5
  let main_c_0 : IVec S_ 32 := constantI S_ 32 768#32
  let main_v7 : IVec S768x1 32 := broadcastInDim S768x1 ![] bcast_S_S768x1 main_c_0
  let main_v8 : IVec S768x1 32 := addi main_v3 main_v7
  let main_v9 : IVec S768x1 32 := select main_v6 main_v8 main_v3
  let main_c_1 : IVec S_ 32 := constantI S_ 32 0#32
  let main_v10 : IVec S768x9216 32 := broadcastInDim S768x9216 ![] bcast_S_S768x9216 main_c_1
  let main_v11 : IVec S768x9216 1 := cmpi .slt main_v1 main_v10
  let main_c_2 : IVec S_ 32 := constantI S_ 32 36864#32
  let main_v12 : IVec S768x9216 32 := broadcastInDim S768x9216 ![] bcast_S_S768x9216 main_c_2
  let main_v13 : IVec S768x9216 32 := addi main_v1 main_v12
  let main_v14 : IVec S768x9216 32 := select main_v11 main_v13 main_v1
  let main_v15 : IVec S768x9216 32 := broadcastInDim S768x9216 ![0, 1] bcast_S768x1_S768x9216_0_1 main_v9
  let main_v16 : IVec S768x9216x1 32 := broadcastInDim S768x9216x1 ![0, 1] bcast_S768x9216_S768x9216x1_0_1 main_v15
  let main_v17 : IVec S768x9216x1 32 := broadcastInDim S768x9216x1 ![0, 1] bcast_S768x9216_S768x9216x1_0_1 main_v14
  let main_v18 : IVec S768x9216x2 32 := (fun a b => concatenate S768x9216x2 2 [⟨S768x9216x1, a⟩, ⟨S768x9216x1, b⟩] concatenates_S768x9216x1_S768x9216x1_S768x9216x2_d2) main_v16 main_v17
  fn_part1 (F := F) main_v0 main_v1 main_v3 main_v4 main_v18
-- ==== Pre_idx_in_range.lean ====
abbrev S4x192x96x96 : Shape := ⟨4, ![4, 192, 96, 96]⟩
abbrev S4x192x192x192 : Shape := ⟨4, ![4, 192, 192, 192]⟩
abbrev S_ : Shape := ⟨0, ![]⟩

class Facts : Prop where
  bcast_S_S4x192x96x96 : S_.BroadcastsInDim S4x192x96x96 (![] : Fin 0 → Fin S4x192x96x96.rank)

variable [Facts]

def fn {F : FTy → Type} [FloatOps F] (main_arg0 : FVec F S4x192x96x96 .f32) (main_arg1 : IVec S4x192x96x96 32) (main_arg2 : FVec F S4x192x192x192 .f32) : IVec S4x192x96x96 1 :=
  let main_c : IVec S_ 32 := constantI S_ 32 0#32
  let main_v0 : IVec S4x192x96x96 32 := broadcastInDim S4x192x96x96 ![] bcast_S_S4x192x96x96 main_c
  let main_v1 : IVec S4x192x96x96 1 := cmpi .sge main_arg1 main_v0
  let main_c_0 : IVec S_ 32 := constantI S_ 32 36864#32
  let main_v2 : IVec S4x192x96x96 32 := broadcastInDim S4x192x96x96 ![] bcast_S_S4x192x96x96 main_c_0
  let main_v3 : IVec S4x192x96x96 1 := cmpi .slt main_arg1 main_v2
  let main_v4 : IVec S4x192x96x96 1 := andi main_v1 main_v3
  main_v4
-- ==== Kernel.lean ====
abbrev S4x192x96x96 : Shape := ⟨4, ![4, 192, 96, 96]⟩
abbrev S4x192x192x192 : Shape := ⟨4, ![4, 192, 192, 192]⟩
abbrev S768x9216 : Shape := ⟨2, ![768, 9216]⟩
abbrev S64x9216 : Shape := ⟨2, ![64, 9216]⟩
abbrev S7077888 : Shape := ⟨1, ![7077888]⟩
abbrev S768x36864 : Shape := ⟨2, ![768, 36864]⟩
abbrev S9232 : Shape := ⟨1, ![9232]⟩
abbrev S9216 : Shape := ⟨1, ![9216]⟩
abbrev S36864 : Shape := ⟨1, ![36864]⟩
abbrev S_ : Shape := ⟨0, ![]⟩
abbrev S16 : Shape := ⟨1, ![16]⟩
abbrev S1x36864 : Shape := ⟨2, ![1, 36864]⟩

abbrev nBuf : Table → Nat
  | .hbm => 11
  | .local .tc .vmem => 4
  | .local .scVector .vmem => 6
  | _ => 0

abbrev bufTy : (tb : Table) → Fin (nBuf tb) → BufTy
  | .hbm, ⟨0, _⟩ => ⟨S4x192x96x96, .f32⟩
  | .hbm, ⟨1, _⟩ => ⟨S4x192x96x96, .i32⟩
  | .hbm, ⟨2, _⟩ => ⟨S4x192x192x192, .f32⟩
  | .hbm, ⟨3, _⟩ => ⟨S768x9216, .i32⟩
  | .hbm, ⟨4, _⟩ => ⟨S768x9216, .i32⟩
  | .hbm, ⟨5, _⟩ => ⟨S7077888, .i32⟩
  | .hbm, ⟨6, _⟩ => ⟨S7077888, .f32⟩
  | .hbm, ⟨7, _⟩ => ⟨S7077888, .i32⟩
  | .hbm, ⟨8, _⟩ => ⟨S7077888, .f32⟩
  | .hbm, ⟨9, _⟩ => ⟨S768x36864, .f32⟩
  | .hbm, ⟨10, _⟩ => ⟨S4x192x192x192, .f32⟩
  | .local .tc .vmem, ⟨0, _⟩ => ⟨S64x9216, .i32⟩
  | .local .tc .vmem, ⟨1, _⟩ => ⟨S64x9216, .i32⟩
  | .local .tc .vmem, ⟨2, _⟩ => ⟨S64x9216, .i32⟩
  | .local .tc .vmem, ⟨3, _⟩ => ⟨S64x9216, .i32⟩
  | .local .scVector .vmem, ⟨0, _⟩ => ⟨S9232, .i32⟩
  | .local .scVector .vmem, ⟨1, _⟩ => ⟨S9232, .i32⟩
  | .local .scVector .vmem, ⟨2, _⟩ => ⟨S9216, .f32⟩
  | .local .scVector .vmem, ⟨3, _⟩ => ⟨S9216, .f32⟩
  | .local .scVector .vmem, ⟨4, _⟩ => ⟨S36864, .f32⟩
  | .local .scVector .vmem, ⟨5, _⟩ => ⟨S36864, .f32⟩
  | _, _ => ⟨S4x192x96x96, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v4_0_scv : Ref sig .scVector := ⟨.hbm, 7, rfl⟩
abbrev main_v4_1_scv : Ref sig .scVector := ⟨.hbm, 8, rfl⟩
abbrev main_v5_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x9216 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x9216 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9216_i32 : BitVec 32 := 9216#32
  let v4 : BitVec 32 := Scalar.muli v1 c9216_i32
  ![v4.toNat]
@[reducible] def k1_t1_loop : Scf.Loop 32 :=
  let c0_i32_3 : BitVec 32 := 0#32
  let c12_i32 : BitVec 32 := 12#32
  let v12 : BitVec 32 := Scalar.addi c0_i32_3 c12_i32
  let c1_i32 : BitVec 32 := 1#32
  ⟨c0_i32_3, v12, c1_i32⟩
def k1_off2 (i : grid1.Coords) (k1_t1 : Fin k1_t1_loop.trips) (c0_i32_10 : BitVec 32) : Fin 1 → Nat :=
  let c2_i32_9 : BitVec 32 := 2#32
  let c0_i32_3 : BitVec 32 := 0#32
  let c1_i32 : BitVec 32 := 1#32
  let arg17 : BitVec 32 := Scf.iv c0_i32_3 c1_i32 k1_t1
  let v24 : BitVec 32 := Scalar.muli c2_i32_9 arg17
  let v25 : BitVec 32 := Scalar.addi v24 c0_i32_10
  let c32_i32 : BitVec 32 := 32#32
  let v26 : BitVec 32 := Scalar.muli v25 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.addi v26 v1
  let c9216_i32_11 : BitVec 32 := 9216#32
  let v28 : BitVec 32 := Scalar.muli v27 c9216_i32_11
  ![v28.toNat]
def k1_cond1 (k1_t1 : Fin k1_t1_loop.trips) : BitVec 1 :=
  let c2_i32_9 : BitVec 32 := 2#32
  let c0_i32_3 : BitVec 32 := 0#32
  let c1_i32 : BitVec 32 := 1#32
  let arg17 : BitVec 32 := Scf.iv c0_i32_3 c1_i32 k1_t1
  let v24 : BitVec 32 := Scalar.muli c2_i32_9 arg17
  let c0_i32_10 : BitVec 32 := 0#32
  let v25 : BitVec 32 := Scalar.addi v24 c0_i32_10
  let c1_i32_15 : BitVec 32 := 1#32
  let v36 : BitVec 32 := Scalar.addi v25 c1_i32_15
  let c24_i32 : BitVec 32 := 24#32
  let v37 : BitVec 1 := Scalar.cmpi .slt v36 c24_i32
  let v38 : BitVec 32 := Scalar.extui v37
  let c0_i32_16 : BitVec 32 := 0#32
  let v39 : BitVec 1 := Scalar.cmpi .ne v38 c0_i32_16
  v39

def k1_off3 (i : grid1.Coords) (k1_t1 : Fin k1_t1_loop.trips) : Fin 1 → Nat :=
  let c2_i32_9 : BitVec 32 := 2#32
  let c0_i32_3 : BitVec 32 := 0#32
  let c1_i32 : BitVec 32 := 1#32
  let arg17 : BitVec 32 := Scf.iv c0_i32_3 c1_i32 k1_t1
  let v24 : BitVec 32 := Scalar.muli c2_i32_9 arg17
  let c0_i32_10 : BitVec 32 := 0#32
  let v25 : BitVec 32 := Scalar.addi v24 c0_i32_10
  let c32_i32 : BitVec 32 := 32#32
  let v26 : BitVec 32 := Scalar.muli v25 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.addi v26 v1
  let c32_i32_57 : BitVec 32 := 32#32
  let v82 : BitVec 32 := Scalar.addi v27 c32_i32_57
  let c9216_i32_58 : BitVec 32 := 9216#32
  let v83 : BitVec 32 := Scalar.muli v82 c9216_i32_58
  ![v83.toNat]
def k1_cond2 (k1_t1 : Fin k1_t1_loop.trips) : BitVec 1 :=
  let c2_i32_9 : BitVec 32 := 2#32
  let c0_i32_3 : BitVec 32 := 0#32
  let c1_i32 : BitVec 32 := 1#32
  let arg17 : BitVec 32 := Scf.iv c0_i32_3 c1_i32 k1_t1
  let v24 : BitVec 32 := Scalar.muli c2_i32_9 arg17
  let c0_i32_10 : BitVec 32 := 0#32
  let v25 : BitVec 32 := Scalar.addi v24 c0_i32_10
  let c2_i32_17 : BitVec 32 := 2#32
  let v40 : BitVec 1 := Scalar.cmpi .sge v25 c2_i32_17
  let v41 : BitVec 32 := Scalar.extui v40
  let c0_i32_18 : BitVec 32 := 0#32
  let v42 : BitVec 1 := Scalar.cmpi .ne v41 c0_i32_18
  v42

def k1_off4 (i : grid1.Coords) (k1_t1 : Fin k1_t1_loop.trips) : Fin 2 → Nat :=
  let c2_i32_9 : BitVec 32 := 2#32
  let c0_i32_3 : BitVec 32 := 0#32
  let c1_i32 : BitVec 32 := 1#32
  let arg17 : BitVec 32 := Scf.iv c0_i32_3 c1_i32 k1_t1
  let v24 : BitVec 32 := Scalar.muli c2_i32_9 arg17
  let c0_i32_10 : BitVec 32 := 0#32
  let v25 : BitVec 32 := Scalar.addi v24 c0_i32_10
  let c32_i32 : BitVec 32 := 32#32
  let v26 : BitVec 32 := Scalar.muli v25 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.addi v26 v1
  let c64_i32 : BitVec 32 := 64#32
  let v82 : BitVec 32 := Scalar.subi v27 c64_i32
  let c0_i32_57 : BitVec 32 := 0#32
  ![v82.toNat, 0]
@[reducible] def k1_t2_loop : Scf.Loop 32 :=
  let c0_i32_20 : BitVec 32 := 0#32
  let c144_i32 : BitVec 32 := 144#32
  let v43 : BitVec 32 := Scalar.addi c0_i32_20 c144_i32
  let c1_i32_21 : BitVec 32 := 1#32
  ⟨c0_i32_20, v43, c1_i32_21⟩
def k1_mult1 (k1_t2 : Fin k1_t2_loop.trips) : BitVec 32 :=
  let c0_i32_20 : BitVec 32 := 0#32
  let c1_i32_21 : BitVec 32 := 1#32
  let arg19 : BitVec 32 := Scf.iv c0_i32_20 c1_i32_21 k1_t2
  let c256_i32 : BitVec 32 := 256#32
  let v82 : BitVec 32 := Scalar.muli arg19 c256_i32
  v82
def k1_off5 (k1_t2 : Fin k1_t2_loop.trips) (c0_i32_57 : BitVec 32) : Fin 1 → Nat :=
  let c0_i32_20 : BitVec 32 := 0#32
  let c1_i32_21 : BitVec 32 := 1#32
  let arg19 : BitVec 32 := Scf.iv c0_i32_20 c1_i32_21 k1_t2
  let c256_i32 : BitVec 32 := 256#32
  let v82 : BitVec 32 := Scalar.muli arg19 c256_i32
  let v83 : BitVec 32 := v82
  let v84 : BitVec 32 := Scalar.addi v83 c0_i32_57
  let v85 : Index := Scalar.indexCast v84
  ![v85.toNat]
@[reducible] def k1_t3_loop : Scf.Loop 32 :=
  let c0_i32_24 : BitVec 32 := 0#32
  let c144_i32_25 : BitVec 32 := 144#32
  let v47 : BitVec 32 := Scalar.addi c0_i32_24 c144_i32_25
  let c1_i32_26 : BitVec 32 := 1#32
  ⟨c0_i32_24, v47, c1_i32_26⟩
def k1_mult2 (k1_t3 : Fin k1_t3_loop.trips) : BitVec 32 :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  v82
def k1_off6 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c0_i32_57 : BitVec 32 := 0#32
  let v84 : BitVec 32 := Scalar.addi v83 c0_i32_57
  let v85 : Index := Scalar.indexCast v84
  ![v85.toNat]
def k1_off7 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c0_i32_58 : BitVec 32 := 0#32
  let v89 : BitVec 32 := Scalar.addi v83 c0_i32_58
  let c1_i32_59 : BitVec 32 := 1#32
  let v90 : BitVec 32 := Scalar.addi v89 c1_i32_59
  let v91 : Index := Scalar.indexCast v90
  ![v91.toNat]
def k1_off8 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c0_i32_60 : BitVec 32 := 0#32
  let v95 : BitVec 32 := Scalar.addi v83 c0_i32_60
  let v96 : Index := Scalar.indexCast v95
  ![v96.toNat]

def k1_chk1 (v88 : IVec S16 32) : Prop :=
  (∀ a x, ((![v88] : Fin 1 → IVec S16 32) a x).toNat < S36864.size a)
theorem k1_idx1_inb : ∀ (v88 : IVec S16 32) (k1_hw1 : k1_chk1 v88), ∀ a x, ((![v88] : Fin 1 → IVec S16 32) a x).toNat < S36864.size a := fun v88 k1_hw1 => k1_hw1
def k1_off9 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c16_i32 : BitVec 32 := 16#32
  let v99 : BitVec 32 := Scalar.addi v83 c16_i32
  let v100 : Index := Scalar.indexCast v99
  ![v100.toNat]
def k1_off10 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c16_i32_61 : BitVec 32 := 16#32
  let v104 : BitVec 32 := Scalar.addi v83 c16_i32_61
  let c1_i32_62 : BitVec 32 := 1#32
  let v105 : BitVec 32 := Scalar.addi v104 c1_i32_62
  let v106 : Index := Scalar.indexCast v105
  ![v106.toNat]
def k1_off11 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c16_i32_63 : BitVec 32 := 16#32
  let v110 : BitVec 32 := Scalar.addi v83 c16_i32_63
  let v111 : Index := Scalar.indexCast v110
  ![v111.toNat]

def k1_chk2 (v103 : IVec S16 32) : Prop :=
  (∀ a x, ((![v103] : Fin 1 → IVec S16 32) a x).toNat < S36864.size a)
theorem k1_idx2_inb : ∀ (v103 : IVec S16 32) (k1_hw2 : k1_chk2 v103), ∀ a x, ((![v103] : Fin 1 → IVec S16 32) a x).toNat < S36864.size a := fun v103 k1_hw2 => k1_hw2
def k1_off12 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c32_i32_64 : BitVec 32 := 32#32
  let v114 : BitVec 32 := Scalar.addi v83 c32_i32_64
  let v115 : Index := Scalar.indexCast v114
  ![v115.toNat]
def k1_off13 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c32_i32_65 : BitVec 32 := 32#32
  let v119 : BitVec 32 := Scalar.addi v83 c32_i32_65
  let c1_i32_66 : BitVec 32 := 1#32
  let v120 : BitVec 32 := Scalar.addi v119 c1_i32_66
  let v121 : Index := Scalar.indexCast v120
  ![v121.toNat]
def k1_off14 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c32_i32_67 : BitVec 32 := 32#32
  let v125 : BitVec 32 := Scalar.addi v83 c32_i32_67
  let v126 : Index := Scalar.indexCast v125
  ![v126.toNat]

def k1_chk3 (v118 : IVec S16 32) : Prop :=
  (∀ a x, ((![v118] : Fin 1 → IVec S16 32) a x).toNat < S36864.size a)
theorem k1_idx3_inb : ∀ (v118 : IVec S16 32) (k1_hw3 : k1_chk3 v118), ∀ a x, ((![v118] : Fin 1 → IVec S16 32) a x).toNat < S36864.size a := fun v118 k1_hw3 => k1_hw3
def k1_off15 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c48_i32 : BitVec 32 := 48#32
  let v129 : BitVec 32 := Scalar.addi v83 c48_i32
  let v130 : Index := Scalar.indexCast v129
  ![v130.toNat]
def k1_off16 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c48_i32_68 : BitVec 32 := 48#32
  let v134 : BitVec 32 := Scalar.addi v83 c48_i32_68
  let c1_i32_69 : BitVec 32 := 1#32
  let v135 : BitVec 32 := Scalar.addi v134 c1_i32_69
  let v136 : Index := Scalar.indexCast v135
  ![v136.toNat]
def k1_off17 (k1_t3 : Fin k1_t3_loop.trips) : Fin 1 → Nat :=
  let c0_i32_24 : BitVec 32 := 0#32
  let c1_i32_26 : BitVec 32 := 1#32
  let arg19 : BitVec 32 := Scf.iv c0_i32_24 c1_i32_26 k1_t3
  let c64_i32 : BitVec 32 := 64#32
  let v82 : BitVec 32 := Scalar.muli arg19 c64_i32
  let v83 : BitVec 32 := v82
  let c48_i32_70 : BitVec 32 := 48#32
  let v140 : BitVec 32 := Scalar.addi v83 c48_i32_70
  let v141 : Index := Scalar.indexCast v140
  ![v141.toNat]

def k1_chk4 (v133 : IVec S16 32) : Prop :=
  (∀ a x, ((![v133] : Fin 1 → IVec S16 32) a x).toNat < S36864.size a)
theorem k1_idx4_inb : ∀ (v133 : IVec S16 32) (k1_hw4 : k1_chk4 v133), ∀ a x, ((![v133] : Fin 1 → IVec S16 32) a x).toNat < S36864.size a := fun v133 k1_hw4 => k1_hw4
def k1_off18 (i : grid1.Coords) (k1_t1 : Fin k1_t1_loop.trips) (c0_i32_10 : BitVec 32) : Fin 2 → Nat :=
  let c2_i32_9 : BitVec 32 := 2#32
  let c0_i32_3 : BitVec 32 := 0#32
  let c1_i32 : BitVec 32 := 1#32
  let arg17 : BitVec 32 := Scf.iv c0_i32_3 c1_i32 k1_t1
  let v24 : BitVec 32 := Scalar.muli c2_i32_9 arg17
  let v25 : BitVec 32 := Scalar.addi v24 c0_i32_10
  let c32_i32 : BitVec 32 := 32#32
  let v26 : BitVec 32 := Scalar.muli v25 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v27 : BitVec 32 := Scalar.addi v26 v1
  let c0_i32_28 : BitVec 32 := 0#32
  ![v27.toNat, 0]
def k1_cond3 (k1_t1 : Fin k1_t1_loop.trips) : BitVec 1 :=
  let c2_i32_30 : BitVec 32 := 2#32
  let c0_i32_3 : BitVec 32 := 0#32
  let c1_i32 : BitVec 32 := 1#32
  let arg17 : BitVec 32 := Scf.iv c0_i32_3 c1_i32 k1_t1
  let v53 : BitVec 32 := Scalar.muli c2_i32_30 arg17
  let c1_i32_31 : BitVec 32 := 1#32
  let v54 : BitVec 32 := Scalar.addi v53 c1_i32_31
  let c1_i32_37 : BitVec 32 := 1#32
  let v65 : BitVec 32 := Scalar.addi v54 c1_i32_37
  let c24_i32_38 : BitVec 32 := 24#32
  let v66 : BitVec 1 := Scalar.cmpi .slt v65 c24_i32_38
  let v67 : BitVec 32 := Scalar.extui v66
  let c0_i32_39 : BitVec 32 := 0#32
  let v68 : BitVec 1 := Scalar.cmpi .ne v67 c0_i32_39
  v68

def k1_off19 (i : grid1.Coords) (k1_t1 : Fin k1_t1_loop.trips) : Fin 1 → Nat :=
  let c2_i32_30 : BitVec 32 := 2#32
  let c0_i32_3 : BitVec 32 := 0#32
  let c1_i32 : BitVec 32 := 1#32
  let arg17 : BitVec 32 := Scf.iv c0_i32_3 c1_i32 k1_t1
  let v53 : BitVec 32 := Scalar.muli c2_i32_30 arg17
  let c1_i32_31 : BitVec 32 := 1#32
  let v54 : BitVec 32 := Scalar.addi v53 c1_i32_31
  let c32_i32_32 : BitVec 32 := 32#32
  let v55 : BitVec 32 := Scalar.muli v54 c32_i32_32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v56 : BitVec 32 := Scalar.addi v55 v1
  let c32_i32_57 : BitVec 32 := 32#32
  let v82 : BitVec 32 := Scalar.addi v56 c32_i32_57
  let c9216_i32_58 : BitVec 32 := 9216#32
  let v83 : BitVec 32 := Scalar.muli v82 c9216_i32_58
  ![v83.toNat]
def k1_cond4 (k1_t1 : Fin k1_t1_loop.trips) : BitVec 1 :=
  let c2_i32_30 : BitVec 32 := 2#32
  let c0_i32_3 : BitVec 32 := 0#32
  let c1_i32 : BitVec 32 := 1#32
  let arg17 : BitVec 32 := Scf.iv c0_i32_3 c1_i32 k1_t1
  let v53 : BitVec 32 := Scalar.muli c2_i32_30 arg17
  let c1_i32_31 : BitVec 32 := 1#32
  let v54 : BitVec 32 := Scalar.addi v53 c1_i32_31
  let c2_i32_40 : BitVec 32 := 2#32
  let v69 : BitVec 1 := Scalar.cmpi .sge v54 c2_i32_40
  let v70 : BitVec 32 := Scalar.extui v69
  let c0_i32_41 : BitVec 32 := 0#32
  let v71 : BitVec 1 := Scalar.cmpi .ne v70 c0_i32_41
  v71

def k1_off20 (i : grid1.Coords) (k1_t1 : Fin k1_t1_loop.trips) : Fin 2 → Nat :=
  let c2_i32_30 : BitVec 32 := 2#32
  let c0_i32_3 : BitVec 32 := 0#32
  let c1_i32 : BitVec 32 := 1#32
  let arg17 : BitVec 32 := Scf.iv c0_i32_3 c1_i32 k1_t1
  let v53 : BitVec 32 := Scalar.muli c2_i32_30 arg17
  let c1_i32_31 : BitVec 32 := 1#32
  let v54 : BitVec 32 := Scalar.addi v53 c1_i32_31
  let c32_i32_32 : BitVec 32 := 32#32
  let v55 : BitVec 32 := Scalar.muli v54 c32_i32_32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v56 : BitVec 32 := Scalar.addi v55 v1
  let c64_i32 : BitVec 32 := 64#32
  let v82 : BitVec 32 := Scalar.subi v56 c64_i32
  let c0_i32_57 : BitVec 32 := 0#32
  ![v82.toNat, 0]
@[reducible] def k1_t4_loop : Scf.Loop 32 :=
  let c0_i32_43 : BitVec 32 := 0#32
  let c144_i32_44 : BitVec 32 := 144#32
  let v72 : BitVec 32 := Scalar.addi c0_i32_43 c144_i32_44
  let c1_i32_45 : BitVec 32 := 1#32
  ⟨c0_i32_43, v72, c1_i32_45⟩
def k1_mult3 (k1_t4 : Fin k1_t4_loop.trips) : BitVec 32 :=
  let c0_i32_43 : BitVec 32 := 0#32
  let c1_i32_45 : BitVec 32 := 1#32
  let arg19 : BitVec 32 := Scf.iv c0_i32_43 c1_i32_45 k1_t4
  let c256_i32 : BitVec 32 := 256#32
  let v82 : BitVec 32 := Scalar.muli arg19 c256_i32
  v82
def k1_off21 (k1_t4 : Fin k1_t4_loop.trips) (c0_i32_57 : BitVec 32) : Fin 1 → Nat :=
  let c0_i32_43 : BitVec 32 := 0#32
  let c1_i32_45 : BitVec 32 := 1#32
  let arg19 : BitVec 32 := Scf.iv c0_i32_43 c1_i32_45 k1_t4
  let c256_i32 : BitVec 32 := 256#32
  let v82 : BitVec 32 := Scalar.muli arg19 c256_i32
  let v83 : BitVec 32 := v82
  let v84 : BitVec 32 := Scalar.addi v83 c0_i32_57
  let v85 : Index := Scalar.indexCast v84
  ![v85.toNat]
@[reducible] def k1_t5_loop : Scf.Loop 32 :=
  let c0_i32_50 : BitVec 32 := 0#32
  let c144_i32_51 : BitVec 32 := 144#32
  let v76 : BitVec 32 := Scalar.addi c0_i32_50 c144_i32_51
  let c1_i32_52 : BitVec 32 := 1#32
  ⟨c0_i32_50, v76, c1_i32_52⟩
def k1_mult4 (k1_t5 : Fin k1_t5_loop.trips) : BitVec 32 :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  v82
def k1_off22 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c0_i32_57 : BitVec 32 := 0#32
  let v84 : BitVec 32 := Scalar.addi v83 c0_i32_57
  let v85 : Index := Scalar.indexCast v84
  ![v85.toNat]
def k1_off23 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c0_i32_58 : BitVec 32 := 0#32
  let v89 : BitVec 32 := Scalar.addi v83 c0_i32_58
  let c1_i32_59 : BitVec 32 := 1#32
  let v90 : BitVec 32 := Scalar.addi v89 c1_i32_59
  let v91 : Index := Scalar.indexCast v90
  ![v91.toNat]
def k1_off24 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c0_i32_60 : BitVec 32 := 0#32
  let v95 : BitVec 32 := Scalar.addi v83 c0_i32_60
  let v96 : Index := Scalar.indexCast v95
  ![v96.toNat]

def k1_chk5 (v88 : IVec S16 32) : Prop :=
  (∀ a x, ((![v88] : Fin 1 → IVec S16 32) a x).toNat < S36864.size a)
theorem k1_idx5_inb : ∀ (v88 : IVec S16 32) (k1_hw5 : k1_chk5 v88), ∀ a x, ((![v88] : Fin 1 → IVec S16 32) a x).toNat < S36864.size a := fun v88 k1_hw5 => k1_hw5
def k1_off25 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c16_i32 : BitVec 32 := 16#32
  let v99 : BitVec 32 := Scalar.addi v83 c16_i32
  let v100 : Index := Scalar.indexCast v99
  ![v100.toNat]
def k1_off26 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c16_i32_61 : BitVec 32 := 16#32
  let v104 : BitVec 32 := Scalar.addi v83 c16_i32_61
  let c1_i32_62 : BitVec 32 := 1#32
  let v105 : BitVec 32 := Scalar.addi v104 c1_i32_62
  let v106 : Index := Scalar.indexCast v105
  ![v106.toNat]
def k1_off27 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c16_i32_63 : BitVec 32 := 16#32
  let v110 : BitVec 32 := Scalar.addi v83 c16_i32_63
  let v111 : Index := Scalar.indexCast v110
  ![v111.toNat]

def k1_chk6 (v103 : IVec S16 32) : Prop :=
  (∀ a x, ((![v103] : Fin 1 → IVec S16 32) a x).toNat < S36864.size a)
theorem k1_idx6_inb : ∀ (v103 : IVec S16 32) (k1_hw6 : k1_chk6 v103), ∀ a x, ((![v103] : Fin 1 → IVec S16 32) a x).toNat < S36864.size a := fun v103 k1_hw6 => k1_hw6
def k1_off28 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c32_i32_64 : BitVec 32 := 32#32
  let v114 : BitVec 32 := Scalar.addi v83 c32_i32_64
  let v115 : Index := Scalar.indexCast v114
  ![v115.toNat]
def k1_off29 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c32_i32_65 : BitVec 32 := 32#32
  let v119 : BitVec 32 := Scalar.addi v83 c32_i32_65
  let c1_i32_66 : BitVec 32 := 1#32
  let v120 : BitVec 32 := Scalar.addi v119 c1_i32_66
  let v121 : Index := Scalar.indexCast v120
  ![v121.toNat]
def k1_off30 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c32_i32_67 : BitVec 32 := 32#32
  let v125 : BitVec 32 := Scalar.addi v83 c32_i32_67
  let v126 : Index := Scalar.indexCast v125
  ![v126.toNat]

def k1_chk7 (v118 : IVec S16 32) : Prop :=
  (∀ a x, ((![v118] : Fin 1 → IVec S16 32) a x).toNat < S36864.size a)
theorem k1_idx7_inb : ∀ (v118 : IVec S16 32) (k1_hw7 : k1_chk7 v118), ∀ a x, ((![v118] : Fin 1 → IVec S16 32) a x).toNat < S36864.size a := fun v118 k1_hw7 => k1_hw7
def k1_off31 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c48_i32 : BitVec 32 := 48#32
  let v129 : BitVec 32 := Scalar.addi v83 c48_i32
  let v130 : Index := Scalar.indexCast v129
  ![v130.toNat]
def k1_off32 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c48_i32_68 : BitVec 32 := 48#32
  let v134 : BitVec 32 := Scalar.addi v83 c48_i32_68
  let c1_i32_69 : BitVec 32 := 1#32
  let v135 : BitVec 32 := Scalar.addi v134 c1_i32_69
  let v136 : Index := Scalar.indexCast v135
  ![v136.toNat]
def k1_off33 (k1_t5 : Fin k1_t5_loop.trips) : Fin 1 → Nat :=
  let c0_i32_50 : BitVec 32 := 0#32
  let c1_i32_52 : BitVec 32 := 1#32
  let arg19 : BitVec 32 := Scf.iv c0_i32_50 c1_i32_52 k1_t5
  let c64_i32 : BitVec 32 := 64#32
  let v82 : BitVec 32 := Scalar.muli arg19 c64_i32
  let v83 : BitVec 32 := v82
  let c48_i32_70 : BitVec 32 := 48#32
  let v140 : BitVec 32 := Scalar.addi v83 c48_i32_70
  let v141 : Index := Scalar.indexCast v140
  ![v141.toNat]

def k1_chk8 (v133 : IVec S16 32) : Prop :=
  (∀ a x, ((![v133] : Fin 1 → IVec S16 32) a x).toNat < S36864.size a)
theorem k1_idx8_inb : ∀ (v133 : IVec S16 32) (k1_hw8 : k1_chk8 v133), ∀ a x, ((![v133] : Fin 1 → IVec S16 32) a x).toNat < S36864.size a := fun v133 k1_hw8 => k1_hw8
def k1_off34 (i : grid1.Coords) (c704_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi c704_i32 v1
  let c0_i32_5 : BitVec 32 := 0#32
  ![v14.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x192x96x96 : Shape := ⟨4, ![4, 192, 96, 96]⟩
abbrev S4x192x192x192 : Shape := ⟨4, ![4, 192, 192, 192]⟩
abbrev S768x9216 : Shape := ⟨2, ![768, 9216]⟩
abbrev S_ : Shape := ⟨0, ![]⟩
abbrev S768x36864 : Shape := ⟨2, ![768, 36864]⟩
abbrev S768 : Shape := ⟨1, ![768]⟩
abbrev S768x1 : Shape := ⟨2, ![768, 1]⟩
abbrev S768x9216x1 : Shape := ⟨3, ![768, 9216, 1]⟩
abbrev S768x9216x2 : Shape := ⟨3, ![768, 9216, 2]⟩

abbrev nBuf : Space → Nat
  | .hbm => 29
  | .vmem => 0
  | .smem => 0
  | _ => 0

abbrev bufTy : (tb : Table) → Fin (tcTables nBuf tb) → BufTy
  | .hbm, ⟨0, _⟩ => ⟨S4x192x96x96, .f32⟩
  | .hbm, ⟨1, _⟩ => ⟨S4x192x96x96, .i32⟩
  | .hbm, ⟨2, _⟩ => ⟨S4x192x192x192, .f32⟩
  | .hbm, ⟨3, _⟩ => ⟨S768x9216, .f32⟩
  | .hbm, ⟨4, _⟩ => ⟨S768x9216, .i32⟩
  | .hbm, ⟨5, _⟩ => ⟨S_, .f32⟩
  | .hbm, ⟨6, _⟩ => ⟨S768x36864, .f32⟩
  | .hbm, ⟨7, _⟩ => ⟨S768, .i32⟩
  | .hbm, ⟨8, _⟩ => ⟨S768x1, .i32⟩
  | .hbm, ⟨9, _⟩ => ⟨S_, .i32⟩
  | .hbm, ⟨10, _⟩ => ⟨S768x1, .i32⟩
  | .hbm, ⟨11, _⟩ => ⟨S768x1, .i1⟩
  | .hbm, ⟨12, _⟩ => ⟨S_, .i32⟩
  | .hbm, ⟨13, _⟩ => ⟨S768x1, .i32⟩
  | .hbm, ⟨14, _⟩ => ⟨S768x1, .i32⟩
  | .hbm, ⟨15, _⟩ => ⟨S768x1, .i32⟩
  | .hbm, ⟨16, _⟩ => ⟨S_, .i32⟩
  | .hbm, ⟨17, _⟩ => ⟨S768x9216, .i32⟩
  | .hbm, ⟨18, _⟩ => ⟨S768x9216, .i1⟩
  | .hbm, ⟨19, _⟩ => ⟨S_, .i32⟩
  | .hbm, ⟨20, _⟩ => ⟨S768x9216, .i32⟩
  | .hbm, ⟨21, _⟩ => ⟨S768x9216, .i32⟩
  | .hbm, ⟨22, _⟩ => ⟨S768x9216, .i32⟩
  | .hbm, ⟨23, _⟩ => ⟨S768x9216, .i32⟩
  | .hbm, ⟨24, _⟩ => ⟨S768x9216x1, .i32⟩
  | .hbm, ⟨25, _⟩ => ⟨S768x9216x1, .i32⟩
  | .hbm, ⟨26, _⟩ => ⟨S768x9216x2, .i32⟩
  | .hbm, ⟨27, _⟩ => ⟨S768x36864, .f32⟩
  | .hbm, ⟨28, _⟩ => ⟨S4x192x192x192, .f32⟩
  | _, _ => ⟨S4x192x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Scat.lean ====
/-
  What one row of the result holds: a run of keys and values scattered in order, a key stored only where the next key
  differs from it, over a row of zeros.
-/
module

public import Idealize.ShloMosaic.PureOps

@[expose] public section

noncomputable section

namespace Cert.Proof.Scat

open Idealize.ShloMosaic

abbrev S16 : Shape := ⟨1, ![16]⟩
abbrev S36864 : Shape := ⟨1, ![36864]⟩

variable {F : FTy → Type} [FloatOps F]

/-- The row after the first `n` keys: key `k` is stored, at its distance from the row's base `rb`, where key `k + 1` differs. -/
def scat (Kf : ℕ → BitVec 32) (Vf : ℕ → F .f32) (rb : BitVec 32) : ℕ → S36864.Idx → F .f32
  | 0 => fun _ => Scalar.ofBits .f32 0x00000000#32
  | n + 1 => fun j => if Kf n ≠ Kf (n + 1) ∧ (j 0).val = (Kf n - rb).toNat then Vf n else scat Kf Vf rb n j

/-- A left fold over the lanes is a left fold over the numbers below their count. -/
theorem foldl_finRange {α : Type*} (n : ℕ) (f : α → ℕ → α) (a : ℕ → α) (h : ∀ k, k < n → f (a k) k = a (k + 1)) :
    (List.finRange n).foldl (fun g k => f g k.val) (a 0) = a n := by
  induction n with
  | zero => simp
  | succ n ih =>
    rw [List.finRange_succ_last, List.foldl_append, List.foldl_map]
    simp only [List.foldl_cons, List.foldl_nil, Fin.val_castSucc, Fin.val_last]
    rw [ih fun k hk => h k (by omega)]
    exact h n (by omega)

/-- Sixteen keys stored by one masked scatter. -/
theorem storeIdx_scat (Kf : ℕ → BitVec 32) (Vf : ℕ → F .f32) (rb : BitVec 32) (n : ℕ) (f : Vec F S36864 .f32) (hf : f = scat Kf Vf rb n)
    (idx : IVec S16 32) (v : Vec F S16 .f32) (mask : IVec S16 1) (h : ∀ a x, ((![idx] : Fin S36864.rank → IVec S16 32) a x).toNat < S36864.size a)
    (hidx : ∀ x, idx x = Kf (n + (x 0).val) - rb) (hv : ∀ x, v x = Vf (n + (x 0).val))
    (hmask : ∀ x, mask x = 1#1 ↔ Kf (n + (x 0).val) ≠ Kf (n + (x 0).val + 1)) :
    storeIdx (s := S36864) (d := ![16]) f ![idx] v mask false h = scat Kf Vf rb (n + 16) := by
  subst hf
  unfold storeIdx
  have key := foldl_finRange (α := S36864.Idx → F .f32) 16
    (fun g k => fun j => if Kf (n + k) ≠ Kf (n + k + 1) ∧ (j 0).val = (Kf (n + k) - rb).toNat then Vf (n + k) else g j)
    (fun k => scat Kf Vf rb (n + k)) (fun k _ => rfl)
  refine Eq.trans ?_ key
  refine List.foldl_ext _ _ _ ?_
  intro g k _
  have hx : ((Shape.ofLane (d := ![16]) k) 0).val = k.val := rfl
  dsimp only
  rw [hv, hx]
  by_cases hm : mask (Shape.ofLane k) = 1
  · rw [if_pos hm]
    have hm' := (hmask _).mp hm
    rw [hx] at hm'
    funext j
    have e : (∀ a, (j a).val = (idxAt (s := S36864) ![idx] h (Shape.ofLane k) a).val) ↔ (j 0).val = (Kf (n + k.val) - rb).toNat := by
      constructor
      · intro hj
        rw [hj 0]
        show (idx (Shape.ofLane k)).toNat = _
        rw [hidx, hx]
      · intro hj a
        obtain rfl : a = 0 := Subsingleton.elim _ _
        rw [hj]
        show _ = (idx (Shape.ofLane k)).toNat
        rw [hidx, hx]
    simp only [e, hm', ne_eq, not_false_eq_true, true_and, Bool.false_eq_true, if_false]
  · rw [if_neg hm]
    have hm' := fun hh => hm ((hmask (Shape.ofLane k)).mpr hh)
    rw [hx] at hm'
    funext j
    exact (if_neg fun hh => hm' hh.1).symm

/-- An element of the row is the value of some stored key that names it, or zero where none does. -/
theorem scat_cases (Kf : ℕ → BitVec 32) (Vf : ℕ → F .f32) (rb : BitVec 32) (n : ℕ) (j : S36864.Idx) :
    (∃ k, k < n ∧ (j 0).val = (Kf k - rb).toNat ∧ scat Kf Vf rb n j = Vf k)
      ∨ ((∀ k, k < n → Kf k ≠ Kf (k + 1) → (j 0).val ≠ (Kf k - rb).toNat) ∧ scat Kf Vf rb n j = Scalar.ofBits .f32 0x00000000#32) := by
  induction n with
  | zero => exact Or.inr ⟨fun k hk => absurd hk (Nat.not_lt_zero k), rfl⟩
  | succ n ih =>
    by_cases hc : Kf n ≠ Kf (n + 1) ∧ (j 0).val = (Kf n - rb).toNat
    · exact Or.inl ⟨n, Nat.lt_succ_self n, hc.2, if_pos hc⟩
    · have hs : scat Kf Vf rb (n + 1) j = scat Kf Vf rb n j := if_neg hc
      rw [hs]
      rcases ih with ⟨k, hk, h1, h2⟩ | ⟨h1, h2⟩
      · exact Or.inl ⟨k, by omega, h1, h2⟩
      · refine Or.inr ⟨fun k hk hne => ?_, h2⟩
        rcases Nat.lt_succ_iff_lt_or_eq.mp hk with hk | rfl
        · exact h1 k hk hne
        · exact fun hj => hc ⟨hne, hj⟩

/-- Where the word after the last key names no element a key names, an element some key names holds such a key's value. -/
theorem scat_hit (Kf : ℕ → BitVec 32) (Vf : ℕ → F .f32) (rb : BitVec 32) (n : ℕ) (j : S36864.Idx)
    (hend : ∀ k, k < n → Kf k ≠ Kf n) (h : ∃ k, k < n ∧ (j 0).val = (Kf k - rb).toNat) :
    ∃ k, k < n ∧ (j 0).val = (Kf k - rb).toNat ∧ scat Kf Vf rb n j = Vf k := by
  rcases scat_cases Kf Vf rb n j with h' | ⟨hno, -⟩
  · exact h'
  · exfalso
    -- a key that names the element is followed by an equal one, up to the last
    obtain ⟨k, hk, hj⟩ := h
    have step : ∀ i, k + i < n ∧ Kf (k + i) = Kf k := by
      intro i
      induction i with
      | zero => exact ⟨hk, rfl⟩
      | succ i ih =>
        have hnext : Kf (k + i) = Kf (k + i + 1) := by
          by_contra hne
          exact hno (k + i) ih.1 hne (by rw [ih.2]; exact hj)
        refine ⟨?_, by rw [← ih.2, hnext]; rfl⟩
        rcases Nat.lt_or_ge (k + i + 1) n with hlt | hge
        · exact hlt
        · have he : k + i + 1 = n := by have := ih.1; omega
          exact absurd (by rw [hnext, he]) (hend (k + i) ih.1)
    exact absurd (step n).1 (by omega)

/-- An element no key names is zero. -/
theorem scat_miss (Kf : ℕ → BitVec 32) (Vf : ℕ → F .f32) (rb : BitVec 32) (n : ℕ) (j : S36864.Idx)
    (h : ∀ k, k < n → (j 0).val ≠ (Kf k - rb).toNat) : scat Kf Vf rb n j = Scalar.ofBits .f32 0x00000000#32 := by
  rcases scat_cases Kf Vf rb n j with ⟨k, hk, hj, -⟩ | ⟨-, h'⟩
  · exact absurd hj (h k hk)
  · exact h'

end Cert.Proof.Scat

end
-- ==== Proof.Sort.lean ====
/-
  Sorting keys that are grouped by row leaves every entry in its row.
-/
module

public import Idealize.ShloMosaic.Lib.SortFacts
public import Mathlib.Order.Interval.Finset.Fin
public import Mathlib.Data.Fintype.Card

@[expose] public section

namespace Cert.Proof.Sort

open Idealize.ShloMosaic

/-- The signed comparison of two words below 2³¹ compares their numbers. -/
theorem slt_one_iff {a b : BitVec 32} (ha : a.toNat < 2 ^ 31) (hb : b.toNat < 2 ^ 31) : IntOp.cmpi .slt a b = 1#1 ↔ a.toNat < b.toNat := by
  have h1 (p : Bool) : (BitVec.ofBool p = 1#1) ↔ p = true := by cases p <;> decide
  simp only [IntOp.cmpi, h1, BitVec.slt_eq_decide, decide_eq_true_eq, BitVec.toInt_eq_toNat_cond]
  omega

theorem slt_one_iff_toInt {a b : BitVec 32} : IntOp.cmpi .slt a b = 1#1 ↔ a.toInt < b.toInt := by
  have h1 (p : Bool) : (BitVec.ofBool p = 1#1) ↔ p = true := by cases p <;> decide
  simp only [IntOp.cmpi, h1, BitVec.slt_eq_decide, decide_eq_true_eq]

/-- Two nondecreasing sequences with as many entries below each bound: the first is nowhere below the second. -/
theorem mono_le {n : ℕ} {f g : Fin n → ℕ} (hf : Monotone f) (hg : Monotone g)
    (hc : ∀ t, (Finset.univ.filter fun j => f j < t).card = (Finset.univ.filter fun j => g j < t).card) (i : Fin n) : g i ≤ f i := by
  by_contra h
  have h : f i < g i := Nat.lt_of_not_le h
  have h1 : Finset.Iic i ⊆ Finset.univ.filter fun j => f j < g i := fun j hj => by
    rw [Finset.mem_filter]
    exact ⟨Finset.mem_univ _, lt_of_le_of_lt (hf (Finset.mem_Iic.1 hj)) h⟩
  have h2 : (Finset.univ.filter fun j => g j < g i) ⊆ Finset.Iio i := fun j hj => by
    rw [Finset.mem_filter] at hj
    rw [Finset.mem_Iio]
    by_contra hji
    exact absurd (hg (le_of_not_gt hji)) (Nat.not_le.2 hj.2)
  have h1 := Finset.card_le_card h1
  have h2 := Finset.card_le_card h2
  rw [Fin.card_Iic] at h1
  rw [Fin.card_Iio] at h2
  have := hc (g i)
  omega

/-- A nondecreasing sequence whose rearrangement is nondecreasing is that rearrangement. -/
theorem mono_perm {n : ℕ} {g : Fin n → ℕ} (hg : Monotone g) (π : Equiv.Perm (Fin n)) (hf : Monotone (g ∘ π)) (i : Fin n) : g (π i) = g i := by
  have hc : ∀ t, (Finset.univ.filter fun j => (g ∘ π) j < t).card = (Finset.univ.filter fun j => g j < t).card := fun t =>
    Finset.card_bij (fun j _ => π j) (fun j hj => by rw [Finset.mem_filter] at hj ⊢; exact ⟨Finset.mem_univ _, hj.2⟩)
      (fun _ _ _ _ h => π.injective h)
      (fun j hj => ⟨π.symm j, by
        rw [Finset.mem_filter] at hj ⊢
        refine ⟨Finset.mem_univ _, ?_⟩
        show g (π (π.symm j)) < t
        rw [Equiv.apply_symm_apply]; exact hj.2, Equiv.apply_symm_apply _ _⟩)
  exact le_antisymm (mono_le hg hf (fun t => (hc t).symm) i) (mono_le hf hg hc i)

/-- Sort `n` (key, value) pairs by key, where the key of position `p` lies in the `p / c`-th stretch of `w` numbers:
    the entries are permuted, each within its run of `c` positions. -/
theorem sort_rows {n c w : ℕ} {α : Type} (cmp : BitVec 32 × α → BitVec 32 × α → BitVec 1) (hcmp : ∀ l r, cmp l r = IntOp.cmpi .slt l.1 r.1)
    (k : (⟨1, ![n]⟩ : Shape).Idx → BitVec 32) (v : (⟨1, ![n]⟩ : Shape).Idx → α) (hw : 0 < w)
    (hk : ∀ p : Fin n, w * (p.val / c) ≤ (k (Shape.Idx.ofFin p)).toNat ∧ (k (Shape.Idx.ofFin p)).toNat < w * (p.val / c) + w)
    (hs : ∀ p : Fin n, (k (Shape.Idx.ofFin p)).toNat < 2 ^ 31) :
    ∃ π : Equiv.Perm (Fin n), (∀ p, (Host.unstableSort2 ⟨1, ![n]⟩ 0 cmp k v).1 (Shape.Idx.ofFin p) = k (Shape.Idx.ofFin (π p)))
      ∧ (∀ p, (Host.unstableSort2 ⟨1, ![n]⟩ 0 cmp k v).2 (Shape.Idx.ofFin p) = v (Shape.Idx.ofFin (π p)))
      ∧ ∀ p, (π p).val / c = p.val / c := by
  have hd : 0 < (⟨1, ![n]⟩ : Shape).rank := Nat.zero_lt_one
  let f : Fin n → BitVec 32 × α := fun q => (k (Shape.Idx.ofFin q), v (Shape.Idx.ofFin q))
  let s : Fin n → Fin n := sortedFrom (unstableBefore ⟨1, ![n]⟩ 0 cmp f)
  let π : Equiv.Perm (Fin n) := Equiv.ofBijective s ⟨sortedFrom_injective _, sortedFrom_surjective _⟩
  have hsort : ∀ i j : Fin n, i < j → (k (Shape.Idx.ofFin (s i))).toNat ≤ (k (Shape.Idx.ofFin (s j))).toNat := by
    intro i j hij
    have := unstableBefore_sorted ⟨1, ![n]⟩ 0 cmp f (fun a b h => by rw [hcmp, slt_one_iff_toInt] at h; rw [ne_eq, hcmp, slt_one_iff_toInt]; omega)
      (fun a b c h h' => by
        rw [ne_eq, hcmp, slt_one_iff_toInt] at h h' ⊢; omega) i j hij
    rw [ne_eq, hcmp, slt_one_iff (hs _) (hs _)] at this
    exact Nat.le_of_not_lt this
  have hmono : Monotone ((fun p : Fin n => p.val / c) ∘ π) := by
    intro i j hij
    rcases hij.lt_or_eq with h | rfl
    · have h := hsort i j h
      have hi := hk (s i)
      have hj := hk (s j)
      show (s i).val / c ≤ (s j).val / c
      by_contra hc
      have : (s j).val / c + 1 ≤ (s i).val / c := by omega
      have := Nat.mul_le_mul_left w this
      rw [Nat.mul_add, Nat.mul_one] at this
      omega
    · exact le_refl _
  have hrow := mono_perm (fun i j hij => Nat.div_le_div_right hij : Monotone fun p : Fin n => p.val / c) π hmono
  have hal : ∀ (p q : Fin n), (Shape.Idx.ofFin p).along (⟨0, hd⟩ : Fin (⟨1, ![n]⟩ : Shape).rank) q = Shape.Idx.ofFin q :=
    fun p q => Shape.Idx.along_rank1 _ _
  have he : ∀ p : Fin n, (fun q : Fin n => (k ((Shape.Idx.ofFin p).along (⟨0, hd⟩ : Fin (⟨1, ![n]⟩ : Shape).rank) q),
      v ((Shape.Idx.ofFin p).along (⟨0, hd⟩ : Fin (⟨1, ![n]⟩ : Shape).rank) q))) = f := fun p =>
    funext fun q => congrArg (fun z => (k z, v z)) (hal p q)
  refine ⟨π, fun p => ?_, fun p => ?_, fun p => hrow p⟩
  all_goals
    unfold Host.unstableSort2
    rw [dif_pos hd]
  · refine (congrArg k (hal p _)).trans ?_
    exact congrArg (fun g => k (Shape.Idx.ofFin (sortedFrom (unstableBefore ⟨1, ![n]⟩ 0 cmp g) p))) (he p)
  · refine (congrArg v (hal p _)).trans ?_
    exact congrArg (fun g => v (Shape.Idx.ofFin (sortedFrom (unstableBefore ⟨1, ![n]⟩ 0 cmp g) p))) (he p)

end Cert.Proof.Sort
-- ==== Proof.IdealTile.lean ====
/-
  The vector-subcore kernel's body, run once at a symbolic (SparseCore, subcore) pair.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Scat

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × (UR sig nD τ × Counters)

local notation "𝕄" => MT nD τ sig (HIx 1) (Elt F) ℕ UU ℕ

abbrev ksM : Memref sig .scVector .hbm S7077888 .i32 := Memref.whole main_v4_0_scv
abbrev vsM : Memref sig .scVector .hbm S7077888 .f32 := Memref.whole main_v4_1_scv
abbrev outM : Memref sig .scVector .hbm S768x36864 .f32 := Memref.whole main_v5_scv
abbrev k0M : Memref sig .scVector .vmem S9232 .i32 := Memref.whole cc1_scratch0
abbrev k1M : Memref sig .scVector .vmem S9232 .i32 := Memref.whole cc1_scratch1
abbrev v0M : Memref sig .scVector .vmem S9216 .f32 := Memref.whole cc1_scratch2
abbrev v1M : Memref sig .scVector .vmem S9216 .f32 := Memref.whole cc1_scratch3
abbrev o0M : Memref sig .scVector .vmem S36864 .f32 := Memref.whole cc1_scratch4
abbrev o1M : Memref sig .scVector .vmem S36864 .f32 := Memref.whole cc1_scratch5

variable [FloatOps F]

section Tile

variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)

/-! ## Zeroing a row buffer -/

/-- The 32-bit zero, as a value of the float instance. -/
abbrev fzero : F .f32 := Scalar.ofBits .f32 0x00000000#32

/-- The first `n` elements of a row buffer are zero. -/
def ZeroTo (n : ℕ) (f : S36864.Idx → F .f32) : Prop := ∀ y : S36864.Idx, (y 0).val < n → f y = fzero

theorem zeroTo_cons {κ sp} (v : View sig κ sp S36864 .f32) (f : v.ty.Contents (Elt F)) (L : List (View.Piece (Elt F) S36864 .f32))
    {n n' : ℕ} {off : Fin 1 → Nat} {inb} (ho : off = ![n]) (hn : n' = n + 16)
    (h : ZeroTo n (v.read (Elt F) (v.writes (Elt F) f L))) :
    ZeroTo n' (v.read (Elt F) (v.writes (Elt F) f (⟨Rect.unit (s := S36864) off S16.size inb, k1_pay1⟩ :: L))) := by
  intro y hy
  by_cases hlt : (y 0).val < n
  · rw [View.read_writes_cons_miss_of_axis v f _ L y 0 n 16 (by subst ho; rfl) rfl rfl (Or.inl hlt)]
    exact h y hlt
  · have hx : (y 0).val - n < 16 := by omega
    rw [View.read_writes_cons_hit_of_coords v f _ _ L (fun a => ⟨(y 0).val - n, by rw [Subsingleton.elim a 0]; exact hx⟩) y (fun a => by
      obtain rfl : a = 0 := Subsingleton.elim _ _
      subst ho
      show (y 0).val = n + 1 * ((y 0).val - n)
      omega)]
    rfl

/-- Before trip `n` of a zeroing loop: the buffer's first `256 n` elements are zero. -/
def ZInv0 (n : ℕ) : sProp 𝕄 := iprop(∃ f, ⌜ZeroTo (256 * n) ((o0M).view.read (Elt F) f)⌝ ∗ (o0M).view.loc (thr d L) ↦{fullShare} f)

theorem zero0 (v1 c0 c1 : BitVec 32) (t : Fin k1_t1_loop.trips) (k : Fin k1_t2_loop.trips) (acc : BitVec 32) (v3 : IVec S16 32) :
    (ZInv0 (F := F) d L k.val) ⊢ wp frame (wpE (defs₀ (F := F)) 𝒱₀ (thr d L) none) Set.univ
      (k1_t2_body L ksM (Memref.isWhole_whole _) vsM (Memref.isWhole_whole _) outM (Memref.isWhole_whole _) k0M (Memref.isWhole_whole _)
        k1M (Memref.isWhole_whole _) v0M (Memref.isWhole_whole _) v1M (Memref.isWhole_whole _) o0M (Memref.isWhole_whole _) o1M (Memref.isWhole_whole _)
        cc1_scratch6 cc1_scratch7 cc1_scratch8 cc1_scratch9 cc1_scratch10 cc1_scratch11 v1 k1_pay1 v3 c0 c1 t k acc)
      fun _ => ZInv0 (F := F) d L (k.val + 1) := by
  unfold ZInv0 k1_t2_body
  rw [k1_part1_eq_skeleton]
  unfold k1_part1_skel
  iintro ⟨%f, %hf, Ho⟩
  sl_exec
  sl_step
  iexists _
  isplitr [Ho]
  rotate_left
  · iexact Ho
  · ipureintro
    refine zeroTo_cons _ _ _ (n := 256 * k.val + 16 * 15) (k1_off5_eq k 15) (by omega) ?_
    refine zeroTo_cons _ _ _ (n := 256 * k.val + 16 * 14) (k1_off5_eq k 14) (by omega) ?_
    refine zeroTo_cons _ _ _ (n := 256 * k.val + 16 * 13) (k1_off5_eq k 13) (by omega) ?_
    refine zeroTo_cons _ _ _ (n := 256 * k.val + 16 * 12) (k1_off5_eq k 12) (by omega) ?_
    refine zeroTo_cons _ _ _ (n := 256 * k.val + 16 * 11) (k1_off5_eq k 11) (by omega) ?_
    refine zeroTo_cons _ _ _ (n := 256 * k.val + 16 * 10) (k1_off5_eq k 10) (by omega) ?_
    refine zeroTo_cons _ _ _ (n := 256 * k.val + 16 * 9) (k1_off5_eq k 9) (by omega) ?_
    refine zeroTo_cons _ _ _ (n := 256 * k.val + 16 * 8) (k1_off5_eq k 8) (by omega) ?_
    refine zeroTo_cons _ _ _ (n := 256 * k.val + 16 * 7) (k1_off5_eq k 7) (by omega) ?_
    refine zeroTo_cons _ _ _ (n := 256 * k.val + 16 * 6) (k1_off5_eq k 6) (by omega) ?_
    refine zeroTo_cons _ _ _ (n := 256 * k.val + 16 * 5) (k1_off5_eq k 5) (by omega) ?_
    refine zeroTo_cons _ _ _ (n := 256 * k.val + 16 * 4) (k1_off5_eq k 4) (by omega) ?_
    refine zeroTo_cons _ _ _ (n := 256 * k.val + 16 * 3) (k1_off5_eq k 3) (by omega) ?_
    refine zeroTo_cons _ _ _ (n := 256 * k.val + 16 * 2) (k1_off5_eq k 2) (by omega) ?_
    refine zeroTo_cons _ _ _ (n := 256 * k.val + 16 * 1) (k1_off5_eq k 1) (by omega) ?_
    refine zeroTo_cons _ _ _ (n := 256 * k.val + 16 * 0) (k1_off5_eq k 0) (by omega) ?_
    exact hf

/-- Before trip `n` of a zeroing loop of the second side: the buffer's first `256 n` elements are zero. -/
def ZInv1 (n : ℕ) : sProp 𝕄 := iprop(∃ f, ⌜ZeroTo (256 * n) ((o1M).view.read (Elt F) f)⌝ ∗ (o1M).view.loc (thr d L) ↦{fullShare} f)

theorem zero1 (v1 arg17 : BitVec 32) (t : Fin k1_t1_loop.trips) (k : Fin k1_t4_loop.trips) (acc : BitVec 32) (v3 : IVec S16 32) :
    (ZInv1 (F := F) d L k.val) ⊢ wp frame (wpE (defs₀ (F := F)) 𝒱₀ (thr d L) none) Set.univ
      (k1_t4_body L ksM (Memref.isWhole_whole _) vsM (Memref.isWhole_whole _) outM (Memref.isWhole_whole _) k0M (Memref.isWhole_whole _)
        k1M (Memref.isWhole_whole _) v0M (Memref.isWhole_whole _) v1M (Memref.isWhole_whole _) o0M (Memref.isWhole_whole _) o1M (Memref.isWhole_whole _)
        cc1_scratch6 cc1_scratch7 cc1_scratch8 cc1_scratch9 cc1_scratch10 cc1_scratch11 v1 k1_pay1 v3 t arg17 k acc)
      fun _ => ZInv1 (F := F) d L (k.val + 1) := by
  unfold ZInv1 k1_t4_body
  rw [k1_part3_eq_skeleton]
  unfold k1_part3_skel
  iintro ⟨%f, %hf, Ho⟩
  sl_exec
  sl_step
  iexists _
  isplitr [Ho]
  rotate_left
  · iexact Ho
  · ipureintro
    refine zeroTo_cons _ _ _ (n := 256 * k.val + 16 * 15) (k1_off21_eq k 15) (by omega) ?_
    refine zeroTo_cons _ _ _ (n := 256 * k.val + 16 * 14) (k1_off21_eq k 14) (by omega) ?_
    refine zeroTo_cons _ _ _ (n := 256 * k.val + 16 * 13) (k1_off21_eq k 13) (by omega) ?_
    refine zeroTo_cons _ _ _ (n := 256 * k.val + 16 * 12) (k1_off21_eq k 12) (by omega) ?_
    refine zeroTo_cons _ _ _ (n := 256 * k.val + 16 * 11) (k1_off21_eq k 11) (by omega) ?_
    refine zeroTo_cons _ _ _ (n := 256 * k.val + 16 * 10) (k1_off21_eq k 10) (by omega) ?_
    refine zeroTo_cons _ _ _ (n := 256 * k.val + 16 * 9) (k1_off21_eq k 9) (by omega) ?_
    refine zeroTo_cons _ _ _ (n := 256 * k.val + 16 * 8) (k1_off21_eq k 8) (by omega) ?_
    refine zeroTo_cons _ _ _ (n := 256 * k.val + 16 * 7) (k1_off21_eq k 7) (by omega) ?_
    refine zeroTo_cons _ _ _ (n := 256 * k.val + 16 * 6) (k1_off21_eq k 6) (by omega) ?_
    refine zeroTo_cons _ _ _ (n := 256 * k.val + 16 * 5) (k1_off21_eq k 5) (by omega) ?_
    refine zeroTo_cons _ _ _ (n := 256 * k.val + 16 * 4) (k1_off21_eq k 4) (by omega) ?_
    refine zeroTo_cons _ _ _ (n := 256 * k.val + 16 * 3) (k1_off21_eq k 3) (by omega) ?_
    refine zeroTo_cons _ _ _ (n := 256 * k.val + 16 * 2) (k1_off21_eq k 2) (by omega) ?_
    refine zeroTo_cons _ _ _ (n := 256 * k.val + 16 * 1) (k1_off21_eq k 1) (by omega) ?_
    refine zeroTo_cons _ _ _ (n := 256 * k.val + 16 * 0) (k1_off21_eq k 0) (by omega) ?_
    exact hf

/-! ## Scattering a row -/

open Cert.Proof.Scat (scat storeIdx_scat)

/-- A key buffer holds the keys `Kf`, the word after the last one included. -/
def KHolds (Kf : ℕ → BitVec 32) (f : S9232.Idx → BitVec 32) : Prop := ∀ y : S9232.Idx, (y 0).val ≤ 9216 → f y = Kf (y 0).val
/-- A value buffer holds the values `Vf`. -/
def VHolds (Vf : ℕ → F .f32) (f : S9216.Idx → F .f32) : Prop := ∀ y : S9216.Idx, f y = Vf (y 0).val

theorem load_keys {κ sp} (v : View sig κ sp S9232 .i32) (f : v.ty.Contents (Elt F)) {Kf : ℕ → BitVec 32} (hK : KHolds Kf (v.read (Elt F) f))
    {n : ℕ} {off : Fin 1 → Nat} {inb} (ho : off = ![n]) (hn : n + 15 ≤ 9216) (x : S16.Idx) :
    v.readAt (Elt F) (Rect.unit (s := S9232) off S16.size inb).toLoadRect f x = Kf (n + (x 0).val) := by
  subst ho
  have hx : (x 0).val < 16 := (x 0).isLt
  have e : (((Rect.unit (s := S9232) ![n] S16.size inb).toLoadRect.idx x) 0).val = n + (x 0).val := by
    show n + 1 * (x 0).val = _; omega
  rw [View.readAt_apply, hK _ (by rw [e]; omega), e]

theorem load_vals {κ sp} (v : View sig κ sp S9216 .f32) (f : v.ty.Contents (Elt F)) {Vf : ℕ → F .f32} (hV : VHolds Vf (v.read (Elt F) f))
    {n : ℕ} {off : Fin 1 → Nat} {inb} (ho : off = ![n]) (x : S16.Idx) :
    v.readAt (Elt F) (Rect.unit (s := S9216) off S16.size inb).toLoadRect f x = Vf (n + (x 0).val) := by
  subst ho
  have e : (((Rect.unit (s := S9216) ![n] S16.size inb).toLoadRect.idx x) 0).val = n + (x 0).val := by
    show n + 1 * (x 0).val = _; omega
  rw [View.readAt_apply, hV _, e]

/-- The mask of a store: a lane is stored where its key and the next one, both less the row's base, differ. -/
theorem mask_iff (a b c : BitVec 32) : IntOp.cmpi .ne (a - c) (b - c) = 1#1 ↔ a ≠ b := by
  have e : a - c = b - c ↔ a = b := ⟨fun e => by simpa using congrArg (· + c) e, fun e => by rw [e]⟩
  by_cases h : a = b <;> simp [IntOp.cmpi, e, h, bne, BitVec.ofBool, beq_eq_false_iff_ne.mpr]

/-- Before trip `n` of a scattering loop: the buffer holds the row after its first `64 n` keys. -/
def SInv0 (fk : Buf (Elt F) ((k0M).view.loc (thr d L))) (fv : Buf (Elt F) ((v0M).view.loc (thr d L)))
    (Kf : ℕ → BitVec 32) (Vf : ℕ → F .f32) (rb : BitVec 32) (n : ℕ) : sProp 𝕄 :=
  iprop(((k0M).view.loc (thr d L) ↦{fullShare} fk) ∗ ((v0M).view.loc (thr d L) ↦{fullShare} fv)
    ∗ ((o0M).view.loc (thr d L) ↦{fullShare} scat Kf Vf rb (64 * n)))

theorem store0 {α : Type} {Q : α → sProp 𝕄} {idxs : Fin S36864.rank → IVec S16 32} {v : Vec F S16 .f32} {mask : IVec S16 1}
    {h : ∀ a x, (idxs a x).toNat < S36864.size a} {hs : ((o0M).access (.whole S36864)).Stores Finset.univ}
    {k : PUnit → Prog (TpuEff nD τ sig (Elt F) Λ₀ (thr d L).2) α} (f : Buf (Elt F) ((o0M).view.loc (thr d L)))
    (g : Buf (Elt F) ((o0M).view.loc (thr d L))) (hg : storeIdx (s := S36864) (d := ![16]) (F := F) (e := .f32) f idxs v mask false h = g) :
    ((o0M).view.loc (thr d L) ↦{fullShare} f : sProp 𝕄)
      ⊢ iprop((((o0M).view.loc (thr d L) ↦{fullShare} g) -∗ wp frame (wpE (defs₀ (F := F)) 𝒱₀ (thr d L) none) Set.univ (k ⟨⟩) Q)
        -∗ wp frame (wpE (defs₀ (F := F)) 𝒱₀ (thr d L) none) Set.univ (SparseCore.vectorStoreIdx (d := ![16]) o0M idxs v mask false h hs >>= k) Q) := by
  subst hg
  have e := SparseCore.wp_vectorStoreIdx (defs := defs₀ (F := F)) (Ix := HIx 1) (Name := ℕ) (U := UU) (Lvl := ℕ) 𝒱₀ (thr d L) none Set.univ (base := o0M) (idxs := idxs) (v := v) (mask := mask)
    (add := false) (h := h) (hs := hs) (k := k) (Q := Q) (f := f)
  rw [show ((o0M).access (.whole S36864)).set = Finset.univ from Memref.set_access_whole (cc1_scratch4 : Ref sig .scVector),
    show ((o0M).access (.whole S36864)).read (Elt F) f = f from Memref.read_access_whole (Elt F) (cc1_scratch4 : Ref sig .scVector) f,
    show ((o0M).access (.whole S36864)).write (Elt F) f (storeIdx (s := S36864) (d := ![16]) (F := F) (e := .f32) f idxs v mask false h) Finset.univ
      = storeIdx (s := S36864) (d := ![16]) (F := F) (e := .f32) f idxs v mask false h from Memref.write_access_whole_univ (Elt F) (cc1_scratch4 : Ref sig .scVector) f _] at e
  exact e

/-- The places of a group of keys lie in the row. -/
theorem chk_of {κ sp} {v : View sig κ sp S9232 .i32} {f : v.ty.Contents (Elt F)} {Kf : ℕ → BitVec 32} {rb : BitVec 32} (hK : KHolds Kf (v.read (Elt F) f))
    (hr : ∀ i, i < 9216 → (Kf i - rb).toNat < 36864) {n : ℕ} {off : Fin 1 → Nat} {inb} (ho : off = ![n]) (hn : n + 15 < 9216) {w : IVec S16 32}
    (hw : ∀ x, w x = v.readAt (Elt F) (Rect.unit (s := S9232) off S16.size inb).toLoadRect f x - rb) :
    ∀ a x, ((![w] : Fin S36864.rank → IVec S16 32) a x).toNat < S36864.size a := by
  intro a x
  have hx : (x 0).val < 16 := (x 0).isLt
  rw [Subsingleton.elim a 0]
  show (w x).toNat < 36864
  rw [hw, load_keys v f hK ho (by omega)]
  exact hr _ (by omega)

/-- A group's store takes the row after `n` keys to the row after `n + 16`. -/
theorem group_ok {κ sp κ' sp'} {v : View sig κ sp S9232 .i32} {f : v.ty.Contents (Elt F)} {u : View sig κ' sp' S9216 .f32} {g : u.ty.Contents (Elt F)}
    {Kf : ℕ → BitVec 32} {Vf : ℕ → F .f32} {rb : BitVec 32} (hK : KHolds Kf (v.read (Elt F) f)) (hV : VHolds Vf (u.read (Elt F) g))
    {n m : ℕ} (hm : m = n + 16) {off off' off'' : Fin 1 → Nat} {inb inb' inb''} (ho : off = ![n]) (ho' : off' = ![n + 1]) (ho'' : off'' = ![n]) (hn : n + 15 < 9216)
    {w : IVec S16 32} {mask : IVec S16 1} (h : ∀ a x, ((![w] : Fin S36864.rank → IVec S16 32) a x).toNat < S36864.size a)
    (hw : ∀ x, w x = v.readAt (Elt F) (Rect.unit (s := S9232) off S16.size inb).toLoadRect f x - rb)
    (hmask : ∀ x, mask x = IntOp.cmpi .ne (w x) (v.readAt (Elt F) (Rect.unit (s := S9232) off' S16.size inb').toLoadRect f x - rb)) :
    storeIdx (s := S36864) (d := ![16]) (F := F) (e := .f32) (scat Kf Vf rb n) ![w]
      (u.readAt (Elt F) (Rect.unit (s := S9216) off'' S16.size inb'').toLoadRect g) mask false h = scat Kf Vf rb m := by
  subst hm
  refine storeIdx_scat Kf Vf rb n _ rfl _ _ _ _ (fun x => ?_) (fun x => load_vals u g hV ho'' x) (fun x => ?_)
  · rw [hw, load_keys v f hK ho (by omega)]
  · rw [hmask, hw, load_keys v f hK ho (by omega), load_keys v f hK ho' (by omega), mask_iff, Nat.add_right_comm]

theorem scat0 (c0 c1 : BitVec 32) (v1 : BitVec 32) (t : Fin k1_t1_loop.trips) (k : Fin k1_t3_loop.trips) (acc : BitVec 32)
    {fk : Buf (Elt F) ((k0M).view.loc (thr d L))} {fv : Buf (Elt F) ((v0M).view.loc (thr d L))} {Kf : ℕ → BitVec 32} {Vf : ℕ → F .f32} {rb : BitVec 32}
    (hrb : rb = Scalar.muli (Scalar.addi (Scalar.muli (Scalar.addi (Scalar.muli 2#32 (Scf.iv c0 c1 t)) 0#32) 32#32) v1) 36864#32)
    (hK : KHolds Kf ((k0M).view.read (Elt F) fk)) (hV : VHolds Vf ((v0M).view.read (Elt F) fv))
    (hr : ∀ i, i < 9216 → (Kf i - rb).toNat < 36864) :
    (SInv0 (F := F) d L fk fv Kf Vf rb k.val) ⊢ wp frame (wpE (defs₀ (F := F)) 𝒱₀ (thr d L) none) Set.univ
      (k1_t3_body L ksM (Memref.isWhole_whole _) vsM (Memref.isWhole_whole _) outM (Memref.isWhole_whole _) k0M (Memref.isWhole_whole _)
        k1M (Memref.isWhole_whole _) v0M (Memref.isWhole_whole _) v1M (Memref.isWhole_whole _) o0M (Memref.isWhole_whole _) o1M (Memref.isWhole_whole _)
        cc1_scratch6 cc1_scratch7 cc1_scratch8 cc1_scratch9 cc1_scratch10 cc1_scratch11 v1 k1_pay1 k1_pay2 c0 c1 t rb k acc)
      fun _ => SInv0 (F := F) d L fk fv Kf Vf rb (k.val + 1) := by
  have hk : k.val < 144 := k.isLt
  unfold SInv0 k1_t3_body
  rw [k1_part2_eq_skeleton]
  unfold k1_part2_skel
  iintro ⟨Hk, Hv, Ho⟩
  sl_exec (disch := exact chk_of hK hr (k1_off6_eq k) (by omega) (fun _ => rfl))
  rw [wp_bind]
  iapply (store0 d L _ _ (group_ok hK hV (m := 64 * k.val + 16) rfl (k1_off6_eq k) (k1_off7_eq k) (k1_off8_eq k) (by omega) _ (fun _ => rfl) (fun _ => rfl))) $$ Ho
  iintro Ho
  sl_exec (disch := exact chk_of hK hr (k1_off9_eq k) (by omega) (fun _ => rfl))
  iapply (store0 d L _ _ (group_ok hK hV (m := 64 * k.val + 32) rfl (k1_off9_eq k) (k1_off10_eq k) (k1_off11_eq k) (by omega) _ (fun _ => rfl) (fun _ => rfl))) $$ Ho
  iintro Ho
  sl_exec (disch := exact chk_of hK hr (k1_off12_eq k) (by omega) (fun _ => rfl))
  iapply (store0 d L _ _ (group_ok hK hV (m := 64 * k.val + 48) rfl (k1_off12_eq k) (k1_off13_eq k) (k1_off14_eq k) (by omega) _ (fun _ => rfl) (fun _ => rfl))) $$ Ho
  iintro Ho
  sl_exec (disch := exact chk_of hK hr (k1_off15_eq k) (by omega) (fun x => by subst hrb; rfl))
  iapply (store0 d L _ _ (group_ok hK hV (m := 64 * k.val + 64) rfl (k1_off15_eq k) (k1_off16_eq k) (k1_off17_eq k) (by omega) _ (fun _ => by subst hrb; rfl) (fun _ => by subst hrb; rfl))) $$ Ho
  iintro Ho
  sl_exec
  sl_step
  iframe

/-- Before trip `n` of a scattering loop of the second side: the buffer holds the row after its first `64 n` keys. -/
def SInv1 (fk : Buf (Elt F) ((k1M).view.loc (thr d L))) (fv : Buf (Elt F) ((v1M).view.loc (thr d L)))
    (Kf : ℕ → BitVec 32) (Vf : ℕ → F .f32) (rb : BitVec 32) (n : ℕ) : sProp 𝕄 :=
  iprop(((k1M).view.loc (thr d L) ↦{fullShare} fk) ∗ ((v1M).view.loc (thr d L) ↦{fullShare} fv)
    ∗ ((o1M).view.loc (thr d L) ↦{fullShare} scat Kf Vf rb (64 * n)))

theorem store1 {α : Type} {Q : α → sProp 𝕄} {idxs : Fin S36864.rank → IVec S16 32} {v : Vec F S16 .f32} {mask : IVec S16 1}
    {h : ∀ a x, (idxs a x).toNat < S36864.size a} {hs : ((o1M).access (.whole S36864)).Stores Finset.univ}
    {k : PUnit → Prog (TpuEff nD τ sig (Elt F) Λ₀ (thr d L).2) α} (f : Buf (Elt F) ((o1M).view.loc (thr d L)))
    (g : Buf (Elt F) ((o1M).view.loc (thr d L))) (hg : storeIdx (s := S36864) (d := ![16]) (F := F) (e := .f32) f idxs v mask false h = g) :
    ((o1M).view.loc (thr d L) ↦{fullShare} f : sProp 𝕄)
      ⊢ iprop((((o1M).view.loc (thr d L) ↦{fullShare} g) -∗ wp frame (wpE (defs₀ (F := F)) 𝒱₀ (thr d L) none) Set.univ (k ⟨⟩) Q)
        -∗ wp frame (wpE (defs₀ (F := F)) 𝒱₀ (thr d L) none) Set.univ (SparseCore.vectorStoreIdx (d := ![16]) o1M idxs v mask false h hs >>= k) Q) := by
  subst hg
  have e := SparseCore.wp_vectorStoreIdx (defs := defs₀ (F := F)) (Ix := HIx 1) (Name := ℕ) (U := UU) (Lvl := ℕ) 𝒱₀ (thr d L) none Set.univ (base := o1M) (idxs := idxs) (v := v) (mask := mask)
    (add := false) (h := h) (hs := hs) (k := k) (Q := Q) (f := f)
  rw [show ((o1M).access (.whole S36864)).set = Finset.univ from Memref.set_access_whole (cc1_scratch5 : Ref sig .scVector),
    show ((o1M).access (.whole S36864)).read (Elt F) f = f from Memref.read_access_whole (Elt F) (cc1_scratch5 : Ref sig .scVector) f,
    show ((o1M).access (.whole S36864)).write (Elt F) f (storeIdx (s := S36864) (d := ![16]) (F := F) (e := .f32) f idxs v mask false h) Finset.univ
      = storeIdx (s := S36864) (d := ![16]) (F := F) (e := .f32) f idxs v mask false h from Memref.write_access_whole_univ (Elt F) (cc1_scratch5 : Ref sig .scVector) f _] at e
  exact e

theorem scat1 (v1 arg17 : BitVec 32) (t : Fin k1_t1_loop.trips) (k : Fin k1_t5_loop.trips) (acc : BitVec 32)
    {fk : Buf (Elt F) ((k1M).view.loc (thr d L))} {fv : Buf (Elt F) ((v1M).view.loc (thr d L))} {Kf : ℕ → BitVec 32} {Vf : ℕ → F .f32} {rb : BitVec 32}
    (hrb : rb = Scalar.muli (Scalar.addi (Scalar.muli (Scalar.addi (Scalar.muli 2#32 arg17) 1#32) 32#32) v1) 36864#32)
    (hK : KHolds Kf ((k1M).view.read (Elt F) fk)) (hV : VHolds Vf ((v1M).view.read (Elt F) fv))
    (hr : ∀ i, i < 9216 → (Kf i - rb).toNat < 36864) :
    (SInv1 (F := F) d L fk fv Kf Vf rb k.val) ⊢ wp frame (wpE (defs₀ (F := F)) 𝒱₀ (thr d L) none) Set.univ
      (k1_t5_body L ksM (Memref.isWhole_whole _) vsM (Memref.isWhole_whole _) outM (Memref.isWhole_whole _) k0M (Memref.isWhole_whole _)
        k1M (Memref.isWhole_whole _) v0M (Memref.isWhole_whole _) v1M (Memref.isWhole_whole _) o0M (Memref.isWhole_whole _) o1M (Memref.isWhole_whole _)
        cc1_scratch6 cc1_scratch7 cc1_scratch8 cc1_scratch9 cc1_scratch10 cc1_scratch11 v1 k1_pay1 k1_pay2 t arg17 rb k acc)
      fun _ => SInv1 (F := F) d L fk fv Kf Vf rb (k.val + 1) := by
  have hk : k.val < 144 := k.isLt
  unfold SInv1 k1_t5_body
  rw [k1_part4_eq_skeleton]
  unfold k1_part4_skel
  iintro ⟨Hk, Hv, Ho⟩
  sl_exec (disch := exact chk_of hK hr (k1_off22_eq k) (by omega) (fun _ => rfl))
  rw [wp_bind]
  iapply (store1 d L _ _ (group_ok hK hV (m := 64 * k.val + 16) rfl (k1_off22_eq k) (k1_off23_eq k) (k1_off24_eq k) (by omega) _ (fun _ => rfl) (fun _ => rfl))) $$ Ho
  iintro Ho
  sl_exec (disch := exact chk_of hK hr (k1_off25_eq k) (by omega) (fun _ => rfl))
  iapply (store1 d L _ _ (group_ok hK hV (m := 64 * k.val + 32) rfl (k1_off25_eq k) (k1_off26_eq k) (k1_off27_eq k) (by omega) _ (fun _ => rfl) (fun _ => rfl))) $$ Ho
  iintro Ho
  sl_exec (disch := exact chk_of hK hr (k1_off28_eq k) (by omega) (fun _ => rfl))
  iapply (store1 d L _ _ (group_ok hK hV (m := 64 * k.val + 48) rfl (k1_off28_eq k) (k1_off29_eq k) (k1_off30_eq k) (by omega) _ (fun _ => rfl) (fun _ => rfl))) $$ Ho
  iintro Ho
  sl_exec (disch := exact chk_of hK hr (k1_off31_eq k) (by omega) (fun x => by subst hrb; rfl))
  iapply (store1 d L _ _ (group_ok hK hV (m := 64 * k.val + 64) rfl (k1_off31_eq k) (k1_off32_eq k) (k1_off33_eq k) (by omega) _ (fun _ => by subst hrb; rfl) (fun _ => by subst hrb; rfl))) $$ Ho
  iintro Ho
  sl_exec
  sl_step
  iframe

end Tile

end Cert.Proof.KernelIdeal
-- ==== Proof.IdealMove.lean ====
/-
  The tile's transfers: a row of keys or of values fetched from the sorted arrays, a row of the result written out.
-/
module

public import proofs.«01_k».proof.Proof.IdealTile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scat (scat)

variable {F : FTy → Type}

local notation "𝕄" => MT nD τ sig (HIx 1) (Elt F) ℕ UU ℕ
local notation "ℰ" => (countersEmb : UEmb Counters (MT nD τ sig (HIx 1) (Elt F) ℕ UU ℕ))

/-- A resource travels with a transfer under way. -/
theorem Flight_frame {c : Thread nD τ} {sm : SemLoc sig} {N : ℕ} {P R : sProp 𝕄} :
    iprop(Transfers.Flight ℰ c sm none N P ∗ R) ⊢ (Transfers.Flight ℰ c sm none N iprop(P ∗ R) : sProp 𝕄) := by
  unfold Transfers.Flight
  iintro ⟨⟨⟨%A, HA, %hcap, %hpeek⟩, Hcred⟩, HR⟩
  isplitr [Hcred]
  · iexists iprop(A ∗ R)
    isplitl [HA HR]
    · isplitl [HA]; · iexact HA
      iexact HR
    isplit
    · ipureintro
      intro K
      refine BIBase.Entails.trans ?_ (hcap K)
      iintro ⟨⟨HA, HR⟩, HK⟩
      isplitl [HA]; · iexact HA
      iintro ⟨Hv, HD⟩
      iapply HK
      isplitl [Hv]; · iexact Hv
      isplitl [HD]; · iexact HD
      iexact HR
    · ipureintro
      intro K
      refine BIBase.Entails.trans ?_ (hpeek K)
      iintro ⟨⟨HA, HR⟩, HK⟩
      isplitl [HA]; · iexact HA
      iintro HA
      iapply HK
      isplitl [HA]; · iexact HA
      iexact HR
  · iexact Hcred

/-- The index of a one-axis shape with the given coordinate. -/
def at1 {n : ℕ} (j : ℕ) (h : j < n) : (⟨1, ![n]⟩ : Shape).Idx := fun a => ⟨j, by rw [Subsingleton.elim a 0]; exact h⟩
theorem ext1 {n : ℕ} {x y : (⟨1, ![n]⟩ : Shape).Idx} (h : (x 0).val = (y 0).val) : x = y := by
  funext a; rw [Subsingleton.elim a 0]; exact Fin.ext h

/-- Element `n` of the sorted keys, by its number. -/
def keyAt (f : S7077888.Idx → BitVec 32) (n : ℕ) : BitVec 32 := if h : n < 7077888 then f (at1 n h) else 0
/-- Row `r` of the sorted keys, with the word the tile puts after its last key. -/
def krow (f : S7077888.Idx → BitVec 32) (r k : ℕ) : BitVec 32 := if k < 9216 then keyAt f (9216 * r + k) else 2147483647#32

variable [FloatOps F]

/-- Element `n` of the values in the keys' order, by its number. -/
def valAt (f : S7077888.Idx → F .f32) (n : ℕ) : F .f32 := if h : n < 7077888 then f (at1 n h) else fzero
/-- Row `r` of the values. -/
def vrow (f : S7077888.Idx → F .f32) (r k : ℕ) : F .f32 := valAt f (9216 * r + k)

/-- What the kernel leaves in the result's buffer. -/
def outV (KS : S7077888.Idx → BitVec 32) (VS : S7077888.Idx → F .f32) : S768x36864.Idx → F .f32 :=
  fun i => scat (krow KS (i 0).val) (vrow VS (i 0).val) (BitVec.ofNat 32 (36864 * (i 0).val)) 9216 (at1 (i 1).val (i 1).isLt)

section Tile

variable (d : Dev nD) (L : grid1.Coords)

abbrev rK : Rect S9232 := Rect.unit (s := S9232) ![0] S9216.size inb_S9232_S9216_0

/-- What a key fetch delivers: the buffer holding row `r`'s keys, and the tile's share of the keys back. -/
def KDel (m : Memref sig .scVector .vmem S9232 .i32) (q : PosShare TreeShare) (KS : Buf (Elt F) ((ksM).view.loc (thr d L))) (r : ℕ) : sProp 𝕄 :=
  iprop((∃ f : Buf (Elt F) (m.view.loc (thr d L)), ⌜∀ y : S9232.Idx, (y 0).val < 9216 → m.view.read (Elt F) f y = keyAt KS (9216 * r + (y 0).val)⌝
      ∗ (m.view.loc (thr d L) ↦{fullShare} f)) ∗ ((ksM).view.loc (thr d L) ↦{q} KS))
def KFl (m : Memref sig .scVector .vmem S9232 .i32) (sm : DmaSem sig) (q : PosShare TreeShare) (KS : Buf (Elt F) ((ksM).view.loc (thr d L))) (r : ℕ) : sProp 𝕄 :=
  Transfers.Flight ℰ (thr d L) (.dma sm) none (m.slice rK (fun _ => rfl)).view.dmaCredit (KDel d L m q KS r)

/-- What a value fetch delivers. -/
def VDel (m : Memref sig .scVector .vmem S9216 .f32) (q : PosShare TreeShare) (VS : Buf (Elt F) ((vsM).view.loc (thr d L))) (r : ℕ) : sProp 𝕄 :=
  iprop((∃ f : Buf (Elt F) (m.view.loc (thr d L)), ⌜∀ y : S9216.Idx, m.view.read (Elt F) f y = vrow VS r (y 0).val⌝
      ∗ (m.view.loc (thr d L) ↦{fullShare} f)) ∗ ((vsM).view.loc (thr d L) ↦{q} VS))
def VFl (m : Memref sig .scVector .vmem S9216 .f32) (sm : DmaSem sig) (q : PosShare TreeShare) (VS : Buf (Elt F) ((vsM).view.loc (thr d L))) (r : ℕ) : sProp 𝕄 :=
  Transfers.Flight ℰ (thr d L) (.dma sm) none m.view.dmaCredit (VDel d L m q VS r)

theorem enqK {α : Type} {Q : α → sProp 𝕄} {k : PUnit → Prog (TpuEff nD τ sig (Elt F) Λ₀ (thr d L).2) α}
    (m : Memref sig .scVector .vmem S9232 .i32) (sm : DmaSem sig) {off : Fin 1 → ℕ} {inb} {hsrc hdst hsem} {q : PosShare TreeShare}
    {KS : Buf (Elt F) ((ksM).view.loc (thr d L))} {f : Buf (Elt F) (m.view.loc (thr d L))} {r : ℕ} (ho : off = ![9216 * r]) (hr : r < 768) :
    iprop(((ksM).view.loc (thr d L) ↦{q} KS) ∗ (m.view.loc (thr d L) ↦{fullShare} f) ∗ semVal (thr d L, .dma sm) 0)
      ⊢ iprop((KFl d L m sm q KS r -∗ wp frame (wpE (defs₀ (F := F)) 𝒱₀ (thr d L) none) Set.univ (k ⟨⟩) Q)
        -∗ wp frame (wpE (defs₀ (F := F)) 𝒱₀ (thr d L) none) Set.univ
          (.op (.enqueueDma ((ksM).slice (Rect.unit (s := S7077888) off S9216.size inb) (fun _ => rfl)) (.here (m.slice rK (fun _ => rfl))) (.dma sm) hsrc hdst hsem) k) Q) := by
  subst ho
  iintro ⟨Hks, Hm, Hs⟩ HK
  ihave H' := (pointsTo_split_subset (Finset.subset_univ ((ksM).slice (Rect.unit (s := S7077888) ![9216 * r] S9216.size inb) (fun _ => rfl)).view.set)).1 $$ Hks
  icases H' with ⟨Ha, Hb⟩
  iapply (Transfers.wp_dmaLocal ℰ 𝒱₀ (thr d L) none none _ rfl (View.dmaCredit_pos _ (show 0 < S9216.numel by decide)) (Finset.subset_univ _)) $$ [Ha Hm Hs]
  · isplitl [Ha]; · iexact Ha
    isplitl [Hm]; · iexact Hm
    iexact Hs
  iintro HF
  iapply HK
  ihave HF' := Flight_frame $$ [HF Hb]
  · isplitl [HF]; · iexact HF
    iexact Hb
  have hv : ∀ y : S9232.Idx, (y 0).val < 9216 → m.view.read (Elt F) ((m.slice rK (fun _ => rfl)).view.write (Elt F) f
      (ReadAs.same.apply (((ksM).slice (Rect.unit (s := S7077888) ![9216 * r] S9216.size inb) (fun _ => rfl)).view.read (Elt F) KS)) Finset.univ) y
      = keyAt KS (9216 * r + (y 0).val) := by
    intro y hy
    have e : y = rK.emb (at1 (y 0).val hy : S9216.Idx) := by
      apply ext1; show (y 0).val = 0 + 1 * (y 0).val; omega
    conv_lhs => rw [e]
    refine (View.read_slice_write_emb (v := m.view) rK f _ (Finset.mem_univ _)).trans ?_
    unfold keyAt
    rw [dif_pos (by omega)]
    refine congrArg KS (ext1 (n := 7077888) ?_)
    show 9216 * r + 1 * (y 0).val = 9216 * r + (y 0).val
    omega
  unfold KFl
  iapply (Transfers.Flight_mono ℰ (thr d L) (?_ : _ ⊢ KDel d L m q KS r)) $$ HF'
  unfold KDel
  iintro ⟨⟨Hm, Ha⟩, Hb⟩
  isplitl [Hm]
  · iexists _
    isplitr [Hm]
    rotate_left
    · iexact Hm
    ipureintro
    exact hv
  · iapply (pointsTo_split_subset (Finset.subset_univ _)).2
    isplitl [Ha]; · iexact Ha
    iexact Hb

theorem enqV {α : Type} {Q : α → sProp 𝕄} {k : PUnit → Prog (TpuEff nD τ sig (Elt F) Λ₀ (thr d L).2) α}
    (m : Memref sig .scVector .vmem S9216 .f32) (sm : DmaSem sig) {off : Fin 1 → ℕ} {inb} {hsrc hdst hsem} {q : PosShare TreeShare}
    {VS : Buf (Elt F) ((vsM).view.loc (thr d L))} {f : Buf (Elt F) (m.view.loc (thr d L))} {r : ℕ} (ho : off = ![9216 * r]) (hr : r < 768) :
    iprop(((vsM).view.loc (thr d L) ↦{q} VS) ∗ (m.view.loc (thr d L) ↦{fullShare} f) ∗ semVal (thr d L, .dma sm) 0)
      ⊢ iprop((VFl d L m sm q VS r -∗ wp frame (wpE (defs₀ (F := F)) 𝒱₀ (thr d L) none) Set.univ (k ⟨⟩) Q)
        -∗ wp frame (wpE (defs₀ (F := F)) 𝒱₀ (thr d L) none) Set.univ
          (.op (.enqueueDma ((vsM).slice (Rect.unit (s := S7077888) off S9216.size inb) (fun _ => rfl)) (.here m) (.dma sm) hsrc hdst hsem) k) Q) := by
  subst ho
  iintro ⟨Hks, Hm, Hs⟩ HK
  ihave H' := (pointsTo_split_subset (Finset.subset_univ ((vsM).slice (Rect.unit (s := S7077888) ![9216 * r] S9216.size inb) (fun _ => rfl)).view.set)).1 $$ Hks
  icases H' with ⟨Ha, Hb⟩
  iapply (Transfers.wp_dmaLocal ℰ 𝒱₀ (thr d L) none none _ rfl (View.dmaCredit_pos _ (show 0 < S9216.numel by decide)) (Finset.subset_univ _)) $$ [Ha Hm Hs]
  · isplitl [Ha]; · iexact Ha
    isplitl [Hm]; · iexact Hm
    iexact Hs
  iintro HF
  iapply HK
  ihave HF' := Flight_frame $$ [HF Hb]
  · isplitl [HF]; · iexact HF
    iexact Hb
  have hv : ∀ y : S9216.Idx, m.view.read (Elt F) (m.view.write (Elt F) f
      (ReadAs.same.apply (((vsM).slice (Rect.unit (s := S7077888) ![9216 * r] S9216.size inb) (fun _ => rfl)).view.read (Elt F) VS)) Finset.univ) y
      = vrow VS r (y 0).val := by
    intro y
    have hy : (y 0).val < 9216 := (y 0).isLt
    rw [View.read_write_univ]
    unfold vrow valAt
    rw [dif_pos (by omega)]
    refine congrArg VS (ext1 (n := 7077888) ?_)
    show 9216 * r + 1 * (y 0).val = 9216 * r + (y 0).val
    omega
  unfold VFl
  iapply (Transfers.Flight_mono ℰ (thr d L) (?_ : _ ⊢ VDel d L m q VS r)) $$ HF'
  unfold VDel
  iintro ⟨⟨Hm, Ha⟩, Hb⟩
  isplitl [Hm]
  · iexists _
    isplitr [Hm]
    rotate_left
    · iexact Hm
    ipureintro
    exact hv
  · iapply (pointsTo_split_subset (Finset.subset_univ _)).2
    isplitl [Ha]; · iexact Ha
    iexact Hb

/-- The elements of the result in the rows the tile `w` writes through side `s`. -/
def rowsOf (b : ℕ) : Finset S768x36864.Idx := Finset.univ.filter fun i => (i 0).val % 64 = b

/-- The tile's rows of one side with the first `n` of them written. -/
def ORow (b n : ℕ) (KS : Buf (Elt F) ((ksM).view.loc (thr d L))) (VS : Buf (Elt F) ((vsM).view.loc (thr d L))) : sProp 𝕄 :=
  iprop(∃ g : Buf (Elt F) ((outM).view.loc (thr d L)), ⌜∀ i : S768x36864.Idx, (i 0).val % 64 = b → (i 0).val < 64 * n → g i = outV KS VS i⌝
    ∗ ((outM).view.loc (thr d L) ↦[rowsOf b]{fullShare} g))

def ODel (m : Memref sig .scVector .vmem S36864 .f32) (b n : ℕ) (KS : Buf (Elt F) ((ksM).view.loc (thr d L))) (VS : Buf (Elt F) ((vsM).view.loc (thr d L))) : sProp 𝕄 :=
  iprop(ORow d L b n KS VS ∗ ∃ f : Buf (Elt F) (m.view.loc (thr d L)), (m.view.loc (thr d L) ↦{fullShare} f))

/-- The credit of a transfer of a row of the result. -/
def oCredit : ℕ := (outM).view.ref.dmaCredit S36864 .f32

def OFl (m : Memref sig .scVector .vmem S36864 .f32) (sm : DmaSem sig) (b n : ℕ) (KS : Buf (Elt F) ((ksM).view.loc (thr d L)))
    (VS : Buf (Elt F) ((vsM).view.loc (thr d L))) : sProp 𝕄 :=
  Transfers.Flight ℰ (thr d L) (.dma sm) none oCredit (ODel d L m b n KS VS)

theorem row_emb {off : Fin 2 → ℕ} {inb} {r : ℕ} (ho : off = ![r, 0]) (x : S36864.Idx) :
    ((((((outM).slice (Rect.unit (s := S768x36864) off S1x36864.size inb) (fun _ => rfl)).squeeze S36864 squeezes_S1x36864_S36864).view.emb x : S768x36864.Idx) 0).val = r)
    ∧ (((((outM).slice (Rect.unit (s := S768x36864) off S1x36864.size inb) (fun _ => rfl)).squeeze S36864 squeezes_S1x36864_S36864).view.emb x : S768x36864.Idx) 1).val = (x 0).val := by
  subst ho
  have e := Shape.reshapeEquiv_cons_one (d := ![36864]) (squeezes_S1x36864_S36864.numel_eq) x
  constructor
  · show r + 1 * (((Shape.reshapeEquiv (s := S1x36864) squeezes_S1x36864_S36864.numel_eq x) 0).val) = r
    erw [e]; rfl
  · show 0 + 1 * (((Shape.reshapeEquiv (s := S1x36864) squeezes_S1x36864_S36864.numel_eq x) 1).val) = _
    erw [e]; show 0 + 1 * (x 0).val = _; omega

theorem enqO {α : Type} {Q : α → sProp 𝕄} {k : PUnit → Prog (TpuEff nD τ sig (Elt F) Λ₀ (thr d L).2) α}
    (m : Memref sig .scVector .vmem S36864 .f32) (hm : m.view.set = Finset.univ) (sm : DmaSem sig) {off : Fin 2 → ℕ} {inb} {hsrc hdst hsem} {b n r : ℕ}
    {KS : Buf (Elt F) ((ksM).view.loc (thr d L))} {VS : Buf (Elt F) ((vsM).view.loc (thr d L))} {f : Buf (Elt F) (m.view.loc (thr d L))}
    (ho : off = ![r, 0]) (hr : r = 64 * n + b) (hb : b < 64)
    (hf : m.view.read (Elt F) f = scat (krow KS r) (vrow VS r) (BitVec.ofNat 32 (36864 * r)) 9216) :
    iprop(ORow d L b n KS VS ∗ (m.view.loc (thr d L) ↦{fullShare} f) ∗ semVal (thr d L, .dma sm) 0)
      ⊢ iprop((OFl d L m sm b (n + 1) KS VS -∗ wp frame (wpE (defs₀ (F := F)) 𝒱₀ (thr d L) none) Set.univ (k ⟨⟩) Q)
        -∗ wp frame (wpE (defs₀ (F := F)) 𝒱₀ (thr d L) none) Set.univ
          (.op (.enqueueDma m (.here (((outM).slice (Rect.unit (s := S768x36864) off S1x36864.size inb) (fun _ => rfl)).squeeze S36864 squeezes_S1x36864_S36864))
            (.dma sm) hsrc hdst hsem) k) Q) := by
  subst ho
  have hrow := fun x => row_emb (inb := inb) (r := r) rfl x
  have hm' : (m.view.loc (thr d L) ↦{fullShare} f : sProp 𝕄) = (m.view.loc (thr d L) ↦[m.view.set]{fullShare} f) := by rw [hm]
  have hsub : (((outM).slice (Rect.unit (s := S768x36864) ![r, 0] S1x36864.size inb) (fun _ => rfl)).squeeze S36864 squeezes_S1x36864_S36864).view.set ⊆ rowsOf b := by
    intro i hi
    obtain ⟨x, -, rfl⟩ := Finset.mem_map.mp hi
    refine Finset.mem_filter.mpr ⟨Finset.mem_univ _, ?_⟩
    have h := (hrow x).1
    omega
  have hpos : 0 < (((outM).slice (Rect.unit (s := S768x36864) ![r, 0] S1x36864.size inb) (fun _ => rfl)).squeeze S36864 squeezes_S1x36864_S36864).view.dmaCredit :=
    View.dmaCredit_pos _ (show 0 < S36864.numel by decide)
  unfold ORow
  iintro ⟨⟨%g, %hg, Ho⟩, Hm, Hs⟩ HK
  ihave Hm' := (BIBase.Entails.of_eq hm') $$ Hm
  have hv : ∀ i : S768x36864.Idx, (i 0).val % 64 = b → (i 0).val < 64 * (n + 1) →
      ((((outM).slice (Rect.unit (s := S768x36864) ![r, 0] S1x36864.size inb) (fun _ => rfl)).squeeze S36864 squeezes_S1x36864_S36864).view.write (Elt F) g
        (ReadAs.same.apply (m.view.read (Elt F) f)) Finset.univ) i = outV KS VS i := by
    intro i hi hin
    by_cases h : (i 0).val = r
    · have hi1 : (i 1).val < 36864 := (i 1).isLt
      have e : i = (((outM).slice (Rect.unit (s := S768x36864) ![r, 0] S1x36864.size inb) (fun _ => rfl)).squeeze S36864 squeezes_S1x36864_S36864).view.emb
          (at1 (i 1).val hi1 : S36864.Idx) := by
        funext a
        apply Fin.ext
        fin_cases a
        · exact h.trans (hrow _).1.symm
        · exact ((hrow (at1 (i 1).val hi1)).2).symm
      conv_lhs => rw [e]
      rw [View.write_emb_of_mem _ _ (Finset.mem_univ _)]
      show m.view.read (Elt F) f _ = _
      rw [hf]
      unfold outV
      rw [h]
    · rw [View.write_of_not_mem, hg i hi (by omega)]
      intro hmem
      obtain ⟨x, -, rfl⟩ := Finset.mem_map.mp hmem
      exact h (hrow x).1
  iapply (Transfers.wp_dmaLocal ℰ 𝒱₀ (thr d L) none none oCredit rfl hpos (src := m)
    (dst := (((outM).slice (Rect.unit (s := S768x36864) ![r, 0] S1x36864.size inb) (fun _ => rfl)).squeeze S36864 squeezes_S1x36864_S36864)) (Sd := rowsOf b) (fs := f) (fd := g) (q := fullShare) hsub) $$ [Ho Hm' Hs]
  · isplitl [Hm']; · iexact Hm'
    isplitl [Ho]; · iexact Ho
    iexact Hs
  iintro HF
  iapply HK
  unfold OFl
  iapply (Transfers.Flight_mono ℰ (thr d L) (?_ : _ ⊢ ODel d L m b (n + 1) KS VS)) $$ HF
  unfold ODel ORow
  iintro ⟨Ho, Hm⟩
  isplitl [Ho]
  · iexists _
    isplitr [Ho]
    rotate_left
    · iexact Ho
    ipureintro
    exact hv
  · iexists f
    iapply (BIBase.Entails.of_eq hm'.symm) $$ Hm

end Tile

end Cert.Proof.KernelIdeal
-- ==== Proof.IdealBody.lean ====
/-
  One trip of the tile's outer loop: two rows of the result, one through each pair of buffers.
-/
module

public import proofs.«01_k».proof.Proof.IdealMove

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scat (scat)

variable {F : FTy → Type}

local notation "𝕄" => MT nD τ sig (HIx 1) (Elt F) ℕ UU ℕ
local notation "ℰ" => (countersEmb : UEmb Counters (MT nD τ sig (HIx 1) (Elt F) ℕ UU ℕ))

variable [FloatOps F]

section Tile

variable (d : Dev nD) (L : grid1.Coords)

/-- The tile's number. -/
def wid (L : grid1.Coords) : ℕ := 2 * (L 1).val + (L 0).val
theorem wid_lt (L : grid1.Coords) : wid L < 32 := by
  have h0 : (L 0).val < 2 := (L 0).isLt
  have h1 : (L 1).val < 16 := (L 1).isLt
  unfold wid; omega

/-- What the tile owes, with its waits' evidence: the waits it has added are on none of the launch's cells. -/
def OW (O : CellTallies nD τ sig (HIx 1)) (W : Waits sig (HIx 1)) : sProp 𝕄 :=
  iprop(Transfers.MayWaits (thr d L) none O ∗ ∃ W', ⌜∀ p ∈ W', p ∈ W ∨ p.2 = none⌝ ∗ owes (thr d L) O W')

theorem waitF {α : Type} {Q : α → sProp 𝕄} {k : PUnit → Prog (TpuEff nD τ sig (Elt F) Λ₀ (thr d L).2) α}
    {sp sp' : Space} {s s' : Shape} {e e' : EltTy} {κ' : Kind} {sem : DmaSem sig}
    {srcw : Memref sig (thr d L).2.kind sp' s' e'} {dstw : Memref sig κ' sp s e} {hsrc : srcw.view.WordExact} {hdst : dstw.view.WordExact}
    {N : ℕ} (hN : dstw.view.dmaCredit = N) {P : sProp 𝕄} {O : CellTallies nD τ sig (HIx 1)} {W : Waits sig (HIx 1)} :
    iprop(Transfers.Flight ℰ (thr d L) (.dma sem) none N P ∗ OW d L O W)
      ⊢ iprop((iprop(P ∗ semVal (thr d L, .dma sem) 0 ∗ OW d L O W) -∗ wp frame (wpE (defs₀ (F := F)) 𝒱₀ (thr d L) none) Set.univ (k ⟨⟩) Q)
        -∗ wp frame (wpE (defs₀ (F := F)) 𝒱₀ (thr d L) none) Set.univ (.op (.waitDma2 sem srcw dstw hsrc hdst) k) Q) := by
  unfold OW
  iintro ⟨HF, #Hmw, ⟨%W', %hW, HO⟩⟩ HK
  iapply (Transfers.wp_waitLocalO ℰ 𝒱₀ (thr d L) none none hN (O := O) (W := W')) $$ [HF HO]
  · isplitl [HF]; · iexact HF
    isplitl [HO]; · iexact HO
    iapply (Transfers.MayWaits.elim (SemLoc.dma sem)); iexact Hmw
  iintro ⟨HP, Hs, HO⟩
  iapply HK
  isplitl [HP]; · iexact HP
  isplitl [Hs]; · iexact Hs
  isplitr; · iexact Hmw
  iexists _
  isplitr; rotate_left; · iexact HO
  ipureintro
  intro p hp
  rcases Finset.mem_insert.mp hp with rfl | hp
  · exact .inr rfl
  · exact hW p hp

variable (q : PosShare TreeShare) (KS : Buf (Elt F) ((ksM).view.loc (thr d L))) (VS : Buf (Elt F) ((vsM).view.loc (thr d L)))
  (O : CellTallies nD τ sig (HIx 1)) (W : Waits sig (HIx 1))

theorem waitK {α : Type} {Q : α → sProp 𝕄} {k : PUnit → Prog (TpuEff nD τ sig (Elt F) Λ₀ (thr d L).2) α}
    {m : Memref sig .scVector .vmem S9232 .i32} {sem : DmaSem sig} {r : ℕ}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (m.slice rK (fun _ => rfl)).view.dmaCredit) :
    iprop(KFl d L m sem q KS r ∗ OW d L O W)
      ⊢ iprop((iprop(KDel d L m q KS r ∗ semVal (thr d L, .dma sem) 0 ∗ OW d L O W) -∗ wp frame (wpE (defs₀ (F := F)) 𝒱₀ (thr d L) none) Set.univ (k ⟨⟩) Q)
        -∗ wp frame (wpE (defs₀ (F := F)) 𝒱₀ (thr d L) none) Set.univ (.op (.waitDma2 sem srcw dstw hsrc hdst) k) Q) :=
  waitF d L hN

theorem waitV {α : Type} {Q : α → sProp 𝕄} {k : PUnit → Prog (TpuEff nD τ sig (Elt F) Λ₀ (thr d L).2) α}
    {m : Memref sig .scVector .vmem S9216 .f32} {sem : DmaSem sig} {r : ℕ}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = m.view.dmaCredit) :
    iprop(VFl d L m sem q VS r ∗ OW d L O W)
      ⊢ iprop((iprop(VDel d L m q VS r ∗ semVal (thr d L, .dma sem) 0 ∗ OW d L O W) -∗ wp frame (wpE (defs₀ (F := F)) 𝒱₀ (thr d L) none) Set.univ (k ⟨⟩) Q)
        -∗ wp frame (wpE (defs₀ (F := F)) 𝒱₀ (thr d L) none) Set.univ (.op (.waitDma2 sem srcw dstw hsrc hdst) k) Q) :=
  waitF d L hN

/-- Before trip `n` the fetches of the first side's row are under way, or after the last trip the buffers are free. -/
def KIn (n : ℕ) : sProp 𝕄 :=
  if n < 12 then KFl d L k0M cc1_scratch6.sem q KS (64 * n + wid L)
  else iprop((∃ f : Buf (Elt F) ((k0M).view.loc (thr d L)), (k0M).view.loc (thr d L) ↦{fullShare} f) ∗ ((ksM).view.loc (thr d L) ↦{q} KS) ∗ semVal (thr d L, .dma cc1_scratch6.sem) 0)
def VIn (n : ℕ) : sProp 𝕄 :=
  if n < 12 then VFl d L v0M cc1_scratch8.sem q VS (64 * n + wid L)
  else iprop((∃ f : Buf (Elt F) ((v0M).view.loc (thr d L)), (v0M).view.loc (thr d L) ↦{fullShare} f) ∗ ((vsM).view.loc (thr d L) ↦{q} VS) ∗ semVal (thr d L, .dma cc1_scratch8.sem) 0)
/-- Before trip `n` the last row written through the buffer `m` is on its way out, or before the first trip the buffer is free. -/
def Out (m : Memref sig .scVector .vmem S36864 .f32) (sm : DmaSem sig) (b n : ℕ) : sProp 𝕄 :=
  if 1 ≤ n then OFl d L m sm b n KS VS
  else iprop((ORow d L b n KS VS ∗ ∃ f : Buf (Elt F) (m.view.loc (thr d L)), (m.view.loc (thr d L) ↦{fullShare} f)) ∗ semVal (thr d L, .dma sm) 0)

theorem condWait (m : Memref sig .scVector .vmem S36864 .f32) (sm : DmaSem sig) {b n : ℕ} {c : Prop} [Decidable c] (hc : c ↔ 1 ≤ n)
    {α : Type} {Q : α → sProp 𝕄} {J : Prog (TpuEff nD τ sig (Elt F) Λ₀ (thr d L).2) α}
    {X : c → Prog (TpuEff nD τ sig (Elt F) Λ₀ (thr d L).2) α}
    (hX : ∀ h, iprop(OFl d L m sm b n KS VS ∗ OW d L O W) ⊢
      iprop((iprop(ODel d L m b n KS VS ∗ semVal (thr d L, .dma sm) 0 ∗ OW d L O W) -∗ wp frame (wpE (defs₀ (F := F)) 𝒱₀ (thr d L) none) Set.univ J Q)
        -∗ wp frame (wpE (defs₀ (F := F)) 𝒱₀ (thr d L) none) Set.univ (X h) Q)) :
    iprop(Out d L KS VS m sm b n ∗ OW d L O W) ⊢
      iprop((iprop(ODel d L m b n KS VS ∗ semVal (thr d L, .dma sm) 0 ∗ OW d L O W) -∗ wp frame (wpE (defs₀ (F := F)) 𝒱₀ (thr d L) none) Set.univ J Q)
        -∗ wp frame (wpE (defs₀ (F := F)) 𝒱₀ (thr d L) none) Set.univ (dite c X fun _ => J) Q) := by
  unfold Out
  by_cases h : c
  · rw [dif_pos h, if_pos (hc.mp h)]; exact hX h
  · rw [dif_neg h, if_neg (fun h' => h (hc.mpr h'))]
    iintro ⟨⟨HD, Hs⟩, HO⟩ HK
    iapply HK
    unfold ODel
    isplitl [HD]; · iexact HD
    isplitl [Hs]; · iexact Hs
    iexact HO

theorem cond1_true : ∀ t : Fin k1_t1_loop.trips, k1_cond1 t = 1#1 := by decide +kernel
theorem cond2_iff : ∀ t : Fin k1_t1_loop.trips, k1_cond2 t = 1#1 ↔ 1 ≤ t.val := by decide +kernel
theorem cond3_iff : ∀ t : Fin k1_t1_loop.trips, k1_cond3 t = 1#1 ↔ t.val + 1 < 12 := by decide +kernel
theorem cond4_iff : ∀ t : Fin k1_t1_loop.trips, k1_cond4 t = 1#1 ↔ 1 ≤ t.val := by decide +kernel

/-- The tile's number as the program computes it. -/
abbrev widW (L : grid1.Coords) : BitVec 32 := Scalar.addi (Scalar.muli (BitVec.ofNat 32 (L 1).val) 2#32) (BitVec.ofNat 32 (L 0).val)

/-- The row's first key as the program computes it. -/
abbrev rbW (L : grid1.Coords) (t : Fin k1_t1_loop.trips) (s : BitVec 32) : BitVec 32 :=
  Scalar.muli (Scalar.addi (Scalar.muli (Scalar.addi (Scalar.muli 2#32 (Scf.iv 0#32 1#32 t)) s) 32#32) (widW L)) 36864#32

theorem base0 : ∀ (L : grid1.Coords) (t : Fin k1_t1_loop.trips),
    rbW L t 0#32 = BitVec.ofNat 32 (36864 * (64 * t.val + wid L)) := by decide +kernel
theorem base1 : ∀ (L : grid1.Coords) (t : Fin k1_t1_loop.trips),
    rbW L t 1#32 = BitVec.ofNat 32 (36864 * (64 * t.val + (32 + wid L))) := by decide +kernel

/-- Each key's place lies in its row. -/
def InRow (KS : S7077888.Idx → BitVec 32) : Prop := ∀ r k, r < 768 → k < 9216 → (krow KS r k - BitVec.ofNat 32 (36864 * r)).toNat < 36864

/-- The fetched row followed by the sentinel. -/
theorem sent_holds (m : Memref sig .scVector .vmem S9232 .i32) {f : Buf (Elt F) (m.view.loc (thr d L))} {r : ℕ} {inb}
    (h : ∀ y : S9232.Idx, (y 0).val < 9216 → m.view.read (Elt F) f y = keyAt KS (9216 * r + (y 0).val)) :
    KHolds (krow KS r) (m.view.read (Elt F) (m.view.writes (Elt F) f [⟨Rect.unit (s := S9232) ![9216] ![16] inb, k1_pay2⟩])) := by
  intro y hy
  by_cases hlt : (y 0).val < 9216
  · rw [View.read_writes_cons_miss_of_axis m.view f _ [] y 0 9216 16 rfl rfl rfl (Or.inl hlt)]
    unfold krow
    rw [if_pos hlt]
    exact h y hlt
  · rw [View.read_writes_cons_hit_of_coords m.view f _ _ [] (fun a => ⟨0, by rw [Subsingleton.elim a 0]; exact Nat.succ_pos 15⟩) y (fun a => by
      obtain rfl : a = 0 := Subsingleton.elim _ _
      show (y 0).val = 9216 + 1 * 0
      omega)]
    unfold krow
    rw [if_neg hlt]
    rfl

theorem zeroTo_scat {z : S36864.Idx → F .f32} {n : ℕ} (hn : 36864 ≤ n) (h : ZeroTo n z) (Kf : ℕ → BitVec 32) (Vf : ℕ → F .f32) (rb : BitVec 32) :
    z = scat Kf Vf rb 0 := by
  funext j
  exact h j ((j 0).isLt.trans_le hn)

set_option maxHeartbeats 1000000 in
theorem part5 (hR : InRow KS) (t : Fin k1_t1_loop.trips) :
    iprop(KIn d L q KS t.val ∗ VIn d L q VS t.val
      ∗ (∃ f : Buf (Elt F) ((k1M).view.loc (thr d L)), (k1M).view.loc (thr d L) ↦{fullShare} f) ∗ semVal (thr d L, .dma cc1_scratch7.sem) 0
      ∗ (∃ f : Buf (Elt F) ((v1M).view.loc (thr d L)), (v1M).view.loc (thr d L) ↦{fullShare} f) ∗ semVal (thr d L, .dma cc1_scratch9.sem) 0
      ∗ Out d L KS VS o0M cc1_scratch10.sem (wid L) t.val ∗ OW d L O W)
    ⊢ wp frame (wpE (defs₀ (F := F)) 𝒱₀ (thr d L) none) Set.univ
      (k1_part5 L ksM (Memref.isWhole_whole _) vsM (Memref.isWhole_whole _) outM (Memref.isWhole_whole _) k0M (Memref.isWhole_whole _)
        k1M (Memref.isWhole_whole _) v0M (Memref.isWhole_whole _) v1M (Memref.isWhole_whole _) o0M (Memref.isWhole_whole _) o1M (Memref.isWhole_whole _)
        cc1_scratch6 cc1_scratch7 cc1_scratch8 cc1_scratch9 cc1_scratch10 cc1_scratch11 (widW L) k1_pay1 k1_pay2 0#32 1#32 t)
      fun a => iprop(⌜a = Scf.iv 0#32 1#32 t⌝
        ∗ ((∃ f : Buf (Elt F) ((k0M).view.loc (thr d L)), (k0M).view.loc (thr d L) ↦{fullShare} f) ∗ semVal (thr d L, .dma cc1_scratch6.sem) 0
        ∗ (∃ f : Buf (Elt F) ((v0M).view.loc (thr d L)), (v0M).view.loc (thr d L) ↦{fullShare} f) ∗ semVal (thr d L, .dma cc1_scratch8.sem) 0)
        ∗ KFl d L k1M cc1_scratch7.sem q KS (64 * t.val + (32 + wid L)) ∗ VFl d L v1M cc1_scratch9.sem q VS (64 * t.val + (32 + wid L))
        ∗ ORow d L (wid L) t.val KS VS
        ∗ ((o0M).view.loc (thr d L) ↦{fullShare} scat (krow KS (64 * t.val + wid L)) (vrow VS (64 * t.val + wid L)) (BitVec.ofNat 32 (36864 * (64 * t.val + wid L))) 9216)
        ∗ semVal (thr d L, .dma cc1_scratch10.sem) 0 ∗ OW d L O W) := by
  have ht : t.val < 12 := t.isLt
  have hw := wid_lt L
  rw [← base0 L t]
  rw [k1_part5_eq_skeleton]
  unfold k1_part5_skel
  simp only [Prog.lift, Prog.bind_op, Prog.bind_ret, Prog.pure_eq_ret, Prog.bind_assoc]
  unfold KIn VIn
  rw [if_pos ht, if_pos ht]
  iintro ⟨HK0, HV0, ⟨%fk1, Hk1⟩, Hs7, ⟨%fv1, Hv1⟩, Hs9, Hout, HO⟩
  iapply (waitK d L q KS O W rfl) $$ [HK0 HO]
  · isplitl [HK0]; · iexact HK0
    iexact HO
  iintro ⟨HK0, Hs6, HO⟩
  iapply (waitV d L q VS O W rfl) $$ [HV0 HO]
  · isplitl [HV0]; · iexact HV0
    iexact HO
  iintro ⟨HV0, Hs8, HO⟩
  unfold KDel VDel
  icases HK0 with ⟨⟨%f0, %hf0, Hk0⟩, Hks⟩
  icases HV0 with ⟨⟨%g0, %hg0, Hv0⟩, Hvs⟩
  rw [dif_pos (cond1_true t)]
  iapply (enqK d L k1M cc1_scratch7.sem (r := 64 * t.val + (32 + wid L)) (ho := (k1_off3_eq L t).trans (congrArg (fun n : ℕ => ![n]) (by unfold wid; omega))) (hr := by omega)) $$ [Hks Hk1 Hs7]
  · isplitl [Hks]; · iexact Hks
    isplitl [Hk1]; · iexact Hk1
    iexact Hs7
  iintro HK1
  iapply (enqV d L v1M cc1_scratch9.sem (r := 64 * t.val + (32 + wid L)) (ho := (k1_off3_eq L t).trans (congrArg (fun n : ℕ => ![n]) (by unfold wid; omega))) (hr := by omega)) $$ [Hvs Hv1 Hs9]
  · isplitl [Hvs]; · iexact Hvs
    isplitl [Hv1]; · iexact Hv1
    iexact Hs9
  iintro HV1
  iapply (condWait d L KS VS O W o0M cc1_scratch10.sem (cond2_iff t) (fun h => waitF d L rfl)) $$ [Hout HO]
  · isplitl [Hout]; · iexact Hout
    iexact HO
  unfold ODel
  iintro ⟨⟨HR, ⟨%fo, Ho⟩⟩, Hs10, HO⟩
  sl_for (fun n _ => ZInv0 (F := F) d L n) $$ [Ho]
  · intro k acc
    exact zero0 d L _ _ _ t k acc _
  · unfold ZInv0
    iexists fo
    isplitr; · ipureintro; intro y hy; omega
    iexact Ho
  iintro %acc HZ
  unfold ZInv0
  icases HZ with ⟨%fz, %hz, Ho⟩
  sl_exec
  have hz' : fz = scat (krow KS (64 * t.val + wid L)) (vrow VS (64 * t.val + wid L)) (rbW L t 0#32) (64 * 0) :=
    zeroTo_scat (by decide) hz _ _ _
  rw [hz']
  sl_for (fun n _ => SInv0 d L (k0M.view.writes (Elt F) f0 [⟨Rect.unit (s := S9232) ![9216] ![16] inb_S9232_S16_9216, k1_pay2⟩]) g0
    (krow KS (64 * t.val + wid L)) (vrow VS (64 * t.val + wid L)) (rbW L t 0#32) n) $$ [Hk0 Hv0 Ho]
  · intro k acc
    exact scat0 d L 0#32 1#32 (widW L) t k acc rfl (sent_holds d L KS k0M hf0) hg0 (fun i hi => by rw [base0 L t]; exact hR _ i (by omega) hi)
  · unfold SInv0
    isplitl [Hk0]; · iexact Hk0
    isplitl [Hv0]; · iexact Hv0
    iexact Ho
  iintro %acc' HS
  unfold SInv0
  icases HS with ⟨Hk0, Hv0, Ho⟩
  sl_exec
  rw [wp_ret]
  imodintro
  isplitr; · ipureintro; rfl
  isplitl [Hk0 Hs6 Hv0 Hs8]
  · isplitl [Hk0]; · iexists _; iexact Hk0
    isplitl [Hs6]; · iexact Hs6
    isplitl [Hv0]; · iexists _; iexact Hv0
    iexact Hs8
  isplitl [HK1]; · iexact HK1
  isplitl [HV1]; · iexact HV1
  isplitl [HR]; · iexact HR
  isplitl [Ho]; · iexact Ho
  isplitl [Hs10]; · iexact Hs10
  iexact HO

theorem condFetch {n : ℕ} {c : Prop} [Decidable c] (hc : c ↔ n < 12)
    {α : Type} {Q : α → sProp 𝕄} {J : Prog (TpuEff nD τ sig (Elt F) Λ₀ (thr d L).2) α}
    {X : c → Prog (TpuEff nD τ sig (Elt F) Λ₀ (thr d L).2) α}
    {f : Buf (Elt F) ((k0M).view.loc (thr d L))} {g : Buf (Elt F) ((v0M).view.loc (thr d L))}
    (hX : ∀ h, iprop((((ksM).view.loc (thr d L) ↦{q} KS) ∗ ((k0M).view.loc (thr d L) ↦{fullShare} f) ∗ semVal (thr d L, .dma cc1_scratch6.sem) 0)
        ∗ (((vsM).view.loc (thr d L) ↦{q} VS) ∗ ((v0M).view.loc (thr d L) ↦{fullShare} g) ∗ semVal (thr d L, .dma cc1_scratch8.sem) 0)) ⊢
      iprop((iprop(KFl d L k0M cc1_scratch6.sem q KS (64 * n + wid L) ∗ VFl d L v0M cc1_scratch8.sem q VS (64 * n + wid L))
          -∗ wp frame (wpE (defs₀ (F := F)) 𝒱₀ (thr d L) none) Set.univ J Q)
        -∗ wp frame (wpE (defs₀ (F := F)) 𝒱₀ (thr d L) none) Set.univ (X h) Q)) :
    iprop((((ksM).view.loc (thr d L) ↦{q} KS) ∗ ((k0M).view.loc (thr d L) ↦{fullShare} f) ∗ semVal (thr d L, .dma cc1_scratch6.sem) 0)
        ∗ (((vsM).view.loc (thr d L) ↦{q} VS) ∗ ((v0M).view.loc (thr d L) ↦{fullShare} g) ∗ semVal (thr d L, .dma cc1_scratch8.sem) 0)) ⊢
      iprop((iprop(KIn d L q KS n ∗ VIn d L q VS n) -∗ wp frame (wpE (defs₀ (F := F)) 𝒱₀ (thr d L) none) Set.univ J Q)
        -∗ wp frame (wpE (defs₀ (F := F)) 𝒱₀ (thr d L) none) Set.univ (dite c X fun _ => J) Q) := by
  unfold KIn VIn
  by_cases h : c
  · rw [dif_pos h, if_pos (hc.mp h), if_pos (hc.mp h)]; exact hX h
  · rw [dif_neg h, if_neg (fun h' => h (hc.mpr h')), if_neg (fun h' => h (hc.mpr h'))]
    iintro ⟨⟨H1, H2, H3⟩, ⟨H4, H5, H6⟩⟩ HK
    iapply HK
    isplitl [H1 H2 H3]
    · isplitl [H2]; · iexists f; iexact H2
      isplitl [H1]; · iexact H1
      iexact H3
    · isplitl [H5]; · iexists g; iexact H5
      isplitl [H4]; · iexact H4
      iexact H6

set_option maxHeartbeats 1000000 in
theorem part6 (hR : InRow KS) (t : Fin k1_t1_loop.trips) :
    iprop(((∃ f : Buf (Elt F) ((k0M).view.loc (thr d L)), (k0M).view.loc (thr d L) ↦{fullShare} f) ∗ semVal (thr d L, .dma cc1_scratch6.sem) 0
        ∗ (∃ f : Buf (Elt F) ((v0M).view.loc (thr d L)), (v0M).view.loc (thr d L) ↦{fullShare} f) ∗ semVal (thr d L, .dma cc1_scratch8.sem) 0)
        ∗ KFl d L k1M cc1_scratch7.sem q KS (64 * t.val + (32 + wid L)) ∗ VFl d L v1M cc1_scratch9.sem q VS (64 * t.val + (32 + wid L))
        ∗ ORow d L (wid L) t.val KS VS
        ∗ ((o0M).view.loc (thr d L) ↦{fullShare} scat (krow KS (64 * t.val + wid L)) (vrow VS (64 * t.val + wid L)) (BitVec.ofNat 32 (36864 * (64 * t.val + wid L))) 9216)
        ∗ semVal (thr d L, .dma cc1_scratch10.sem) 0 ∗ Out d L KS VS o1M cc1_scratch11.sem (32 + wid L) t.val ∗ OW d L O W)
    ⊢ wp frame (wpE (defs₀ (F := F)) 𝒱₀ (thr d L) none) Set.univ
      (k1_part6 L ksM (Memref.isWhole_whole _) vsM (Memref.isWhole_whole _) outM (Memref.isWhole_whole _) k0M (Memref.isWhole_whole _)
        k1M (Memref.isWhole_whole _) v0M (Memref.isWhole_whole _) v1M (Memref.isWhole_whole _) o0M (Memref.isWhole_whole _) o1M (Memref.isWhole_whole _)
        cc1_scratch6 cc1_scratch7 cc1_scratch8 cc1_scratch9 cc1_scratch10 cc1_scratch11 (widW L) k1_pay1 k1_pay2 t (Scf.iv 0#32 1#32 t))
      fun _ => iprop(KIn d L q KS (t.val + 1) ∗ VIn d L q VS (t.val + 1)
        ∗ ((∃ f : Buf (Elt F) ((k1M).view.loc (thr d L)), (k1M).view.loc (thr d L) ↦{fullShare} f) ∗ semVal (thr d L, .dma cc1_scratch7.sem) 0
        ∗ (∃ f : Buf (Elt F) ((v1M).view.loc (thr d L)), (v1M).view.loc (thr d L) ↦{fullShare} f) ∗ semVal (thr d L, .dma cc1_scratch9.sem) 0)
        ∗ OFl d L o0M cc1_scratch10.sem (wid L) (t.val + 1) KS VS
        ∗ ORow d L (32 + wid L) t.val KS VS
        ∗ ((o1M).view.loc (thr d L) ↦{fullShare} scat (krow KS (64 * t.val + (32 + wid L))) (vrow VS (64 * t.val + (32 + wid L)))
            (BitVec.ofNat 32 (36864 * (64 * t.val + (32 + wid L)))) 9216)
        ∗ semVal (thr d L, .dma cc1_scratch11.sem) 0 ∗ OW d L O W) := by
  have ht : t.val < 12 := t.isLt
  have hw := wid_lt L
  rw [← base1 L t]
  rw [k1_part6_eq_skeleton]
  unfold k1_part6_skel
  simp only [Prog.lift, Prog.bind_op, Prog.bind_ret, Prog.pure_eq_ret, Prog.bind_assoc]
  iintro ⟨⟨⟨%fk0, Hk0⟩, Hs6, ⟨%fv0, Hv0⟩, Hs8⟩, HK1, HV1, HR0, Ho0, Hs10, Hout, HO⟩
  iapply (enqO d L o0M (View.set_whole _) cc1_scratch10.sem (b := wid L) (n := t.val) (r := 64 * t.val + wid L)
    (f := scat (krow KS (64 * t.val + wid L)) (vrow VS (64 * t.val + wid L)) (BitVec.ofNat 32 (36864 * (64 * t.val + wid L))) 9216)
    (ho := (k1_off18_eq L t 0).trans (congrArg (fun n : ℕ => ![n, 0])
      (by show 64 * t.val + 32 * 0 + 2 * (L 1).val + (L 0).val = _; unfold wid; omega)))
    (hr := rfl) (hb := by omega) (hf := View.read_whole _ _)) $$ [HR0 Ho0 Hs10]
  · isplitl [HR0]; · iexact HR0
    isplitl [Ho0]; · iexact Ho0
    iexact Hs10
  iintro HOut0
  iapply (waitK d L q KS O W rfl) $$ [HK1 HO]
  · isplitl [HK1]; · iexact HK1
    iexact HO
  iintro ⟨HK1, Hs7, HO⟩
  iapply (waitV d L q VS O W rfl) $$ [HV1 HO]
  · isplitl [HV1]; · iexact HV1
    iexact HO
  iintro ⟨HV1, Hs9, HO⟩
  unfold KDel VDel
  icases HK1 with ⟨⟨%f1, %hf1, Hk1⟩, Hks⟩
  icases HV1 with ⟨⟨%g1, %hg1, Hv1⟩, Hvs⟩
  iapply (condFetch d L q KS VS (f := fk0) (g := fv0) (cond3_iff t) (fun h => by
    iintro ⟨H1, H2⟩ HK
    iapply (enqK d L k0M cc1_scratch6.sem (r := 64 * (t.val + 1) + wid L)
      (ho := (k1_off19_eq L t).trans (congrArg (fun n : ℕ => ![n]) (by unfold wid; omega))) (hr := by have := (cond3_iff t).mp h; omega)) $$ H1
    iintro H1
    iapply (enqV d L v0M cc1_scratch8.sem (r := 64 * (t.val + 1) + wid L)
      (ho := (k1_off19_eq L t).trans (congrArg (fun n : ℕ => ![n]) (by unfold wid; omega))) (hr := by have := (cond3_iff t).mp h; omega)) $$ H2
    iintro H2
    iapply HK
    isplitl [H1]; · iexact H1
    iexact H2)) $$ [Hks Hk0 Hs6 Hvs Hv0 Hs8]
  · isplitl [Hks Hk0 Hs6]
    · isplitl [Hks]; · iexact Hks
      isplitl [Hk0]; · iexact Hk0
      iexact Hs6
    · isplitl [Hvs]; · iexact Hvs
      isplitl [Hv0]; · iexact Hv0
      iexact Hs8
  iintro ⟨HKI, HVI⟩
  iapply (condWait d L KS VS O W o1M cc1_scratch11.sem (cond4_iff t) (fun h => waitF d L rfl)) $$ [Hout HO]
  · isplitl [Hout]; · iexact Hout
    iexact HO
  unfold ODel
  iintro ⟨⟨HR, ⟨%fo, Ho⟩⟩, Hs11, HO⟩
  sl_for (fun n _ => ZInv1 (F := F) d L n) $$ [Ho]
  · intro k acc
    exact zero1 d L _ _ t k acc _
  · unfold ZInv1
    iexists fo
    isplitr; · ipureintro; intro y hy; omega
    iexact Ho
  iintro %acc HZ
  unfold ZInv1
  icases HZ with ⟨%fz, %hz, Ho⟩
  sl_exec
  have hz' : fz = scat (krow KS (64 * t.val + (32 + wid L))) (vrow VS (64 * t.val + (32 + wid L))) (rbW L t 1#32) (64 * 0) :=
    zeroTo_scat (by decide) hz _ _ _
  rw [hz']
  sl_for (fun n _ => SInv1 d L (k1M.view.writes (Elt F) f1 [⟨Rect.unit (s := S9232) ![9216] ![16] inb_S9232_S16_9216, k1_pay2⟩]) g1
    (krow KS (64 * t.val + (32 + wid L))) (vrow VS (64 * t.val + (32 + wid L))) (rbW L t 1#32) n) $$ [Hk1 Hv1 Ho]
  · intro k acc
    exact scat1 d L (widW L) (Scf.iv 0#32 1#32 t) t k acc rfl (sent_holds d L KS k1M hf1) hg1 (fun i hi => by rw [base1 L t]; exact hR _ i (by omega) hi)
  · unfold SInv1
    isplitl [Hk1]; · iexact Hk1
    isplitl [Hv1]; · iexact Hv1
    iexact Ho
  iintro %acc' HS
  unfold SInv1
  icases HS with ⟨Hk1, Hv1, Ho⟩
  sl_exec
  rw [wp_ret]
  imodintro
  isplitl [HKI]; · iexact HKI
  isplitl [HVI]; · iexact HVI
  isplitl [Hk1 Hs7 Hv1 Hs9]
  · isplitl [Hk1]; · iexists _; iexact Hk1
    isplitl [Hs7]; · iexact Hs7
    isplitl [Hv1]; · iexists _; iexact Hv1
    iexact Hs9
  isplitl [HOut0]; · iexact HOut0
  isplitl [HR]; · iexact HR
  isplitl [Ho]; · iexact Ho
  isplitl [Hs11]; · iexact Hs11
  iexact HO

/-- What the tile holds before trip `n` of its outer loop. -/
def LI (n : ℕ) : sProp 𝕄 :=
  iprop(KIn d L q KS n ∗ VIn d L q VS n
    ∗ ((∃ f : Buf (Elt F) ((k1M).view.loc (thr d L)), (k1M).view.loc (thr d L) ↦{fullShare} f) ∗ semVal (thr d L, .dma cc1_scratch7.sem) 0
    ∗ (∃ f : Buf (Elt F) ((v1M).view.loc (thr d L)), (v1M).view.loc (thr d L) ↦{fullShare} f) ∗ semVal (thr d L, .dma cc1_scratch9.sem) 0)
    ∗ Out d L KS VS o0M cc1_scratch10.sem (wid L) n ∗ Out d L KS VS o1M cc1_scratch11.sem (32 + wid L) n ∗ OW d L O W)

theorem out_succ (m : Memref sig .scVector .vmem S36864 .f32) (sm : DmaSem sig) (b n : ℕ) :
    Out d L KS VS m sm b (n + 1) = OFl d L m sm b (n + 1) KS VS := if_pos (Nat.succ_pos n)

set_option maxHeartbeats 1000000 in
theorem trip (hR : InRow KS) (t : Fin k1_t1_loop.trips) (acc : BitVec 32) :
    LI d L q KS VS O W t.val ⊢ wp frame (wpE (defs₀ (F := F)) 𝒱₀ (thr d L) none) Set.univ
      (k1_t1_body L ksM (Memref.isWhole_whole _) vsM (Memref.isWhole_whole _) outM (Memref.isWhole_whole _) k0M (Memref.isWhole_whole _)
        k1M (Memref.isWhole_whole _) v0M (Memref.isWhole_whole _) v1M (Memref.isWhole_whole _) o0M (Memref.isWhole_whole _) o1M (Memref.isWhole_whole _)
        cc1_scratch6 cc1_scratch7 cc1_scratch8 cc1_scratch9 cc1_scratch10 cc1_scratch11 (widW L) t acc)
      fun _ => LI d L q KS VS O W (t.val + 1) := by
  have ht : t.val < 12 := t.isLt
  have hw := wid_lt L
  unfold LI k1_t1_body
  iintro ⟨HK, HV, ⟨Hk1, Hs7, Hv1, Hs9⟩, Ho0, Ho1, HO⟩
  rw [wp_bind]
  ihave H5 := (part5 d L q KS VS O W hR t) $$ [HK HV Hk1 Hs7 Hv1 Hs9 Ho0 HO]
  · isplitl [HK]; · iexact HK
    isplitl [HV]; · iexact HV
    isplitl [Hk1]; · iexact Hk1
    isplitl [Hs7]; · iexact Hs7
    isplitl [Hv1]; · iexact Hv1
    isplitl [Hs9]; · iexact Hs9
    isplitl [Ho0]; · iexact Ho0
    iexact HO
  iapply (wp_wand frame _ Set.univ) $$ H5
  iintro %a ⟨%ha, HB, HK1, HV1, HR0, Ho0, Hs10, HO⟩
  subst ha
  rw [wp_bind]
  ihave H6 := (part6 d L q KS VS O W hR t) $$ [HB HK1 HV1 HR0 Ho0 Hs10 Ho1 HO]
  · isplitl [HB]; · iexact HB
    isplitl [HK1]; · iexact HK1
    isplitl [HV1]; · iexact HV1
    isplitl [HR0]; · iexact HR0
    isplitl [Ho0]; · iexact Ho0
    isplitl [Hs10]; · iexact Hs10
    isplitl [Ho1]; · iexact Ho1
    iexact HO
  iapply (wp_wand frame _ Set.univ) $$ H6
  iintro %_ ⟨HK, HV, HB, Ho0, HR, Ho1, Hs11, HO⟩
  simp only [Prog.lift, Prog.bind_op, Prog.bind_ret, Prog.pure_eq_ret, Prog.bind_assoc]
  iapply (enqO d L o1M (View.set_whole _) cc1_scratch11.sem (b := 32 + wid L) (n := t.val) (r := 64 * t.val + (32 + wid L))
    (f := scat (krow KS (64 * t.val + (32 + wid L))) (vrow VS (64 * t.val + (32 + wid L))) (BitVec.ofNat 32 (36864 * (64 * t.val + (32 + wid L)))) 9216)
    (ho := (k1_off18_eq L t 1).trans (congrArg (fun n : ℕ => ![n, 0])
      (by show 64 * t.val + 32 * 1 + 2 * (L 1).val + (L 0).val = _; unfold wid; omega)))
    (hr := rfl) (hb := by omega) (hf := View.read_whole _ _)) $$ [HR Ho1 Hs11]
  · isplitl [HR]; · iexact HR
    isplitl [Ho1]; · iexact Ho1
    iexact Hs11
  iintro Ho1
  rw [wp_ret]
  imodintro
  rw [out_succ, out_succ]
  isplitl [HK]; · iexact HK
  isplitl [HV]; · iexact HV
  isplitl [HB]; · iexact HB
  isplitl [Ho0]; · iexact Ho0
  isplitl [Ho1]; · iexact Ho1
  iexact HO

theorem li_last {n : ℕ} (hn : n = 11 + 1) : LI d L q KS VS O W n ⊢
    iprop(((∃ f : Buf (Elt F) ((k0M).view.loc (thr d L)), (k0M).view.loc (thr d L) ↦{fullShare} f) ∗ ((ksM).view.loc (thr d L) ↦{q} KS) ∗ semVal (thr d L, .dma cc1_scratch6.sem) 0)
      ∗ ((∃ f : Buf (Elt F) ((v0M).view.loc (thr d L)), (v0M).view.loc (thr d L) ↦{fullShare} f) ∗ ((vsM).view.loc (thr d L) ↦{q} VS) ∗ semVal (thr d L, .dma cc1_scratch8.sem) 0)
      ∗ ((∃ f : Buf (Elt F) ((k1M).view.loc (thr d L)), (k1M).view.loc (thr d L) ↦{fullShare} f) ∗ semVal (thr d L, .dma cc1_scratch7.sem) 0
      ∗ (∃ f : Buf (Elt F) ((v1M).view.loc (thr d L)), (v1M).view.loc (thr d L) ↦{fullShare} f) ∗ semVal (thr d L, .dma cc1_scratch9.sem) 0)
      ∗ OFl d L o0M cc1_scratch10.sem (wid L) 12 KS VS ∗ OFl d L o1M cc1_scratch11.sem (32 + wid L) 12 KS VS ∗ OW d L O W) := by
  subst hn
  unfold LI KIn VIn
  rw [out_succ, out_succ, if_neg (by decide), if_neg (by decide)]

theorem orow_zero (b : ℕ) (g : Buf (Elt F) ((outM).view.loc (thr d L))) :
    iprop((outM).view.loc (thr d L) ↦[rowsOf b]{fullShare} g) ⊢ ORow d L b 0 KS VS := by
  unfold ORow
  iintro H
  iexists g
  isplitr; · ipureintro; intro i _ h; omega
  iexact H

theorem orow_last (b : ℕ) : ORow d L b 12 KS VS ⊢ iprop((outM).view.loc (thr d L) ↦[rowsOf b]{fullShare} outV KS VS) := by
  unfold ORow
  iintro ⟨%g, %hg, H⟩
  iapply (BIBase.Entails.of_eq (pointsTo_congr (g := outV KS VS) (fun i hi => hg i (by simpa [rowsOf] using hi) (by have : (i 0).val < 768 := (i 0).isLt; omega)))) $$ H

/-- The buffers of the tile's own memory, with any contents. -/
def Bufs : sProp 𝕄 :=
  iprop((∃ f : Buf (Elt F) ((k0M).view.loc (thr d L)), (k0M).view.loc (thr d L) ↦{fullShare} f)
    ∗ (∃ f : Buf (Elt F) ((k1M).view.loc (thr d L)), (k1M).view.loc (thr d L) ↦{fullShare} f)
    ∗ (∃ f : Buf (Elt F) ((v0M).view.loc (thr d L)), (v0M).view.loc (thr d L) ↦{fullShare} f)
    ∗ (∃ f : Buf (Elt F) ((v1M).view.loc (thr d L)), (v1M).view.loc (thr d L) ↦{fullShare} f)
    ∗ (∃ f : Buf (Elt F) ((o0M).view.loc (thr d L)), (o0M).view.loc (thr d L) ↦{fullShare} f)
    ∗ (∃ f : Buf (Elt F) ((o1M).view.loc (thr d L)), (o1M).view.loc (thr d L) ↦{fullShare} f))
/-- The tile's own semaphores, at zero. -/
def Sems : sProp 𝕄 :=
  iprop(semVal (thr d L, .dma cc1_scratch6.sem) 0 ∗ semVal (thr d L, .dma cc1_scratch7.sem) 0 ∗ semVal (thr d L, .dma cc1_scratch8.sem) 0
    ∗ semVal (thr d L, .dma cc1_scratch9.sem) 0 ∗ semVal (thr d L, .dma cc1_scratch10.sem) 0 ∗ semVal (thr d L, .dma cc1_scratch11.sem) 0)

set_option maxHeartbeats 1000000 in
theorem tile (hR : InRow KS) (g : Buf (Elt F) ((outM).view.loc (thr d L))) :
    iprop(((ksM).view.loc (thr d L) ↦{q} KS) ∗ ((vsM).view.loc (thr d L) ↦{q} VS)
      ∗ ((outM).view.loc (thr d L) ↦[rowsOf (wid L)]{fullShare} g) ∗ ((outM).view.loc (thr d L) ↦[rowsOf (32 + wid L)]{fullShare} g)
      ∗ Bufs (F := F) d L ∗ Sems (F := F) d L ∗ OW d L O W)
    ⊢ wp frame (wpE (defs₀ (F := F)) 𝒱₀ (thr d L) none) Set.univ
      (cc1__scatter_sorted L ksM (Memref.isWhole_whole _) vsM (Memref.isWhole_whole _) outM (Memref.isWhole_whole _) k0M (Memref.isWhole_whole _)
        k1M (Memref.isWhole_whole _) v0M (Memref.isWhole_whole _) v1M (Memref.isWhole_whole _) o0M (Memref.isWhole_whole _) o1M (Memref.isWhole_whole _)
        cc1_scratch6 cc1_scratch7 cc1_scratch8 cc1_scratch9 cc1_scratch10 cc1_scratch11)
      fun _ => iprop(((ksM).view.loc (thr d L) ↦{q} KS) ∗ ((vsM).view.loc (thr d L) ↦{q} VS)
        ∗ ((outM).view.loc (thr d L) ↦[rowsOf (wid L)]{fullShare} outV KS VS) ∗ ((outM).view.loc (thr d L) ↦[rowsOf (32 + wid L)]{fullShare} outV KS VS)
        ∗ Bufs (F := F) d L ∗ Sems (F := F) d L ∗ OW d L O W) := by
  have hw := wid_lt L
  rw [cc1__scatter_sorted_eq_skeleton]
  unfold cc1__scatter_sorted_skel Bufs Sems
  simp only [Prog.lift, Prog.bind_op, Prog.bind_ret, Prog.pure_eq_ret, Prog.bind_assoc]
  iintro ⟨Hks, Hvs, Hr0, Hr1, ⟨⟨%f0, Hk0⟩, Hk1, ⟨%g0, Hv0⟩, Hv1, Ho0, Ho1⟩, ⟨Hs6, Hs7, Hs8, Hs9, Hs10, Hs11⟩, HO⟩
  iapply (enqK d L k0M cc1_scratch6.sem (r := 64 * 0 + wid L) (ho := (k1_off1_eq L).trans (congrArg (fun n : ℕ => ![n]) (by unfold wid; omega))) (hr := by omega)) $$ [Hks Hk0 Hs6]
  · isplitl [Hks]; · iexact Hks
    isplitl [Hk0]; · iexact Hk0
    iexact Hs6
  iintro HK
  iapply (enqV d L v0M cc1_scratch8.sem (r := 64 * 0 + wid L) (ho := (k1_off1_eq L).trans (congrArg (fun n : ℕ => ![n]) (by unfold wid; omega))) (hr := by omega)) $$ [Hvs Hv0 Hs8]
  · isplitl [Hvs]; · iexact Hvs
    isplitl [Hv0]; · iexact Hv0
    iexact Hs8
  iintro HV
  sl_for (fun n _ => LI d L q KS VS O W n) $$ [HK HV Hk1 Hs7 Hv1 Hs9 Hr0 Ho0 Hs10 Hr1 Ho1 Hs11 HO]
  · intro t acc
    exact trip d L q KS VS O W hR t acc
  · unfold LI KIn VIn Out
    rw [if_pos (by decide), if_pos (by decide), if_neg (by decide), if_neg (by decide)]
    isplitl [HK]; · iexact HK
    isplitl [HV]; · iexact HV
    isplitl [Hk1 Hs7 Hv1 Hs9]
    · isplitl [Hk1]; · iexact Hk1
      isplitl [Hs7]; · iexact Hs7
      isplitl [Hv1]; · iexact Hv1
      iexact Hs9
    isplitl [Hr0 Ho0 Hs10]
    · isplitr [Hs10]; rotate_left; · iexact Hs10
      isplitl [Hr0]; · iapply (orow_zero d L KS VS _ g) $$ Hr0
      iexact Ho0
    isplitl [Hr1 Ho1 Hs11]
    · isplitr [Hs11]; rotate_left; · iexact Hs11
      isplitl [Hr1]; · iapply (orow_zero d L KS VS _ g) $$ Hr1
      iexact Ho1
    iexact HO
  iintro %acc HL
  ihave HL := (li_last d L q KS VS O W (by decide)) $$ HL
  icases HL with ⟨HK, HV, ⟨Hk1, Hs7, Hv1, Hs9⟩, Ho0, Ho1, HO⟩
  icases HK with ⟨Hk0, Hks, Hs6⟩
  icases HV with ⟨Hv0, Hvs, Hs8⟩
  unfold OFl
  iapply (waitF d L rfl) $$ [Ho0 HO]
  · isplitl [Ho0]; · iexact Ho0
    iexact HO
  iintro ⟨HD0, Hs10, HO⟩
  iapply (waitF d L rfl) $$ [Ho1 HO]
  · isplitl [Ho1]; · iexact Ho1
    iexact HO
  iintro ⟨HD1, Hs11, HO⟩
  unfold ODel
  icases HD0 with ⟨HR0, Ho0⟩
  icases HD1 with ⟨HR1, Ho1⟩
  rw [wp_ret]
  imodintro
  isplitl [Hks]; · iexact Hks
  isplitl [Hvs]; · iexact Hvs
  isplitl [HR0]; · iapply (orow_last d L KS VS _) $$ HR0
  isplitl [HR1]; · iapply (orow_last d L KS VS _) $$ HR1
  isplitl [Hk0 Hk1 Hv0 Hv1 Ho0 Ho1]
  · isplitl [Hk0]; · iexact Hk0
    isplitl [Hk1]; · iexact Hk1
    isplitl [Hv0]; · iexact Hv0
    isplitl [Hv1]; · iexact Hv1
    isplitl [Ho0]; · iexact Ho0
    iexact Ho1
  isplitl [Hs6 Hs7 Hs8 Hs9 Hs10 Hs11]
  · isplitl [Hs6]; · iexact Hs6
    isplitl [Hs7]; · iexact Hs7
    isplitl [Hs8]; · iexact Hs8
    isplitl [Hs9]; · iexact Hs9
    isplitl [Hs10]; · iexact Hs10
    iexact Hs11
  iexact HO

end Tile

end Cert.Proof.KernelIdeal
-- ==== Proof.IdealRegion.lean ====
/-
  The keys: the TensorCore call that turns every index into a key, run as one pipelined region of @main.
-/
module

public import proofs.«01_k».proof.Proof.IdealBody
public import proofs.«01_k».proof.Proof.Gen.KernelIdeal.Points
public import Idealize.ShloMosaic.Lib.Pipeline.RegionsLoop
public import Idealize.ShloMosaic.Lib.Pipeline.ValueKit
public import Idealize.ShloMosaic.Lib.VecWindow

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The body at one grid point -/

theorem body_wp (c : Dev nD) (i : grid0.Coords) (M0 : Memref sig .tc .vmem S64x9216 .i32) (h0 : M0.IsWhole)
    (M1 : Memref sig .tc .vmem S64x9216 .i32) (h1 : M1.IsWhole) (X : Vec F S64x9216 .i32) (Q : PUnit → sProp 𝕄) :
    iprop((owns (c : Thread nD τ) M0 fullShare X) ∗ (∃ Y : Vec F S64x9216 .i32, owns (c : Thread nD τ) M1 fullShare Y)
        ∗ (((owns (c : Thread nD τ) M0 fullShare X) ∗ (owns (c : Thread nD τ) M1 fullShare (k0_pay1 (F := F) i X))) -∗ Q ⟨⟩))
      ⊢ (wp frame (wpE (defs₀ (F := F)) 𝒱₀ (c : Thread nD τ) none) Set.univ (cc0__keys_body i M0 h0 M1 h1) Q : sProp 𝕄) := by
  rw [cc0__keys_body_eq_skeleton]
  unfold cc0__keys_body_skel owns
  iintro ⟨⟨%f0, %h0, H0⟩, ⟨%Y, %f1, -, H1⟩, Hk⟩
  subst h0
  sl_exec
  rw [wp_ret]
  imodintro
  iapply Hk
  isplitl [H0]
  · iexists _; isplitr; swap; (· iexact H0); ipureintro; rfl
  iexists _; isplitr; swap; (· iexact H1)
  ipureintro
  rw [View.read_writes_full, View.readAt_full]

/-! ## The keys -/

/-- The key of a position of row `r` holding index `v`: the index, counted from the row's end if negative, past the rows
    before it. -/
def key (r : ℕ) (v : BitVec 32) : BitVec 32 :=
  (if IntOp.cmpi .slt v 0#32 = 1#1 then v + 36864#32 else v) + BitVec.ofNat 32 r * 36864#32

/-- Every key, of the indices `X`. -/
def keys (X : S768x9216.Idx → BitVec 32) : S768x9216.Idx → BitVec 32 := fun i => key (i 0).val (X i)

theorem pay_apply (i : grid0.Coords) (X : Vec F S64x9216 .i32) (y : S64x9216.Idx) :
    k0_pay1 (F := F) i X y = key (64 * (i 0).val + (y 0).val) (X y) := by
  have hc : shapeCast S64x9216 X shapeCasts_S64x9216_S64x9216 = X := shapeCast_self _ _
  unfold key
  simp only [k0_pay1, addi, muli, select, cmpi, broadcast, Scalar.muli, hc]
  have h0 : iota .tc S64x9216 32 [0] iota_S64x9216_d0_w32 y = BitVec.ofNat 32 (y 0).val := by
    show BitVec.ofNat 32 ([(0 : Fin 2)].foldl (fun n a => n * S64x9216.size a + (y a).val) 0) = _
    rw [List.foldl_cons, List.foldl_nil, Nat.zero_mul, Nat.zero_add]
  rw [h0, BitVec.ofNat_add, BitVec.ofNat_mul, BitVec.add_comm (BitVec.ofNat 32 64 * _), BitVec.mul_comm (BitVec.ofNat 32 64)]
  rfl

/-! ## The proof data of the region -/

variable (W : Dev nD → Valuation τ sig (Elt F))

/-- The block of indices point `t` is handed. -/
abbrev stg (c : Dev nD) (t : Fin cfg0.N) : (cfg0.win 0).block.Idx → Elt F (cfg0.win 0).elt :=
  ((cfg0.win 0).blk t).view.read (Elt F) (W c main_v0)

def dat (c : Dev nD) : Dat τ (Elt F) (HIx 1) ℕ UU ℕ cfg0 c where
  A w := W c (Pipeline.arrRef spec0 w)
  after w t := match w with
    | ⟨0, _⟩ => stg W c t
    | ⟨1, _⟩ => k0_pay1 (F := F) (grid0.coords t) (stg W c t)
  Φ _ := Pipeline.scopedRest (Ix := HIx 1) (Name := ℕ) (U := UU) (Lvl := ℕ) (Val := Elt F) spec0 c
  q _ := fullShare
  owed _ := (K (F := F)).Otc c 0
  recorded _ := {p | (K (F := F)).lev ((c : Thread nD τ), p.1) p.2 ≤ 0}

variable (adm : (p : Fin 1) → (pcfgs (F := F) p).Adm)

def pdats (p : Fin 1) (c : Dev nD) : Dat τ (Elt F) (HIx 1) ℕ UU ℕ (Pipeline.pin (pcfgs (F := F)) adm p) c := dat W c

theorem before_in (c : Dev nD) (t : Fin cfg0.N) (d : (cfg0.win 0).block.Idx → Elt F (cfg0.win 0).elt) :
    (dat W c).before 0 t d = stg W c t := by
  unfold Dat.before; rw [if_pos (fetch0_0 t)]; rfl

theorem body_obligation (c : Dev nD) : BodyObligation (dat W c) (defs₀ (F := F)) 𝒱₀ (none : HIx 1) Set.univ := fun t => by
  rw [bigSep_W0, bigSep_W0]
  rw [show (dat W c).Φ t.succ = (dat W c).Φ t.castSucc from rfl,
    show (dat W c).owesAt none t.succ = (dat W c).owesAt none t.castSucc from rfl]
  iintro ⟨HΦ, Howes, ⟨%d0, H0⟩, ⟨%d1, H1⟩⟩
  rw [before_in]
  iapply (body_wp c (grid0.coords t) (win0_0.stage (cfg0.slots t 0)) (hstage0_0 ((cfg0.slots t 0).cast nbuf0_0))
    (win0_1.stage (cfg0.slots t 1)) (hstage0_1 ((cfg0.slots t 1).cast nbuf0_1)) (stg W c t) _)
  isplitl [H0]; · iexact H0
  isplitl [H1]; · iexists _; iexact H1
  iintro ⟨H0, H1⟩
  isplitl [HΦ]; · iexact HΦ
  isplitl [Howes]; · iexact Howes
  isplitl [H0]; · iexact H0
  iexact H1

/-! ## The region's value -/

theorem idx0 : ∀ t : Fin cfg0.N, win0_0.index t = ![(grid0.coords t 0).val, 0] ∧ win0_1.index t = ![(grid0.coords t 0).val, 0] :=
  (by decide +kernel : ∀ t : Fin grid0.N, _)

theorem final (c : Dev nD) : (dat W c).arrAt 1 cfg0.N = keys (W c main_v0) := by
  refine (dat W c).arrAt_eq_of_covers 1 _ (by decide +kernel) fun t hf y => ?_
  blk_simp
  show k0_pay1 (F := F) (grid0.coords t) (stg W c t) y = _
  rw [pay_apply]
  unfold keys
  have h0 : (((win0_1.blk t).view.emb y 0 : Fin _) : ℕ) = 64 * (grid0.coords t 0).val + (y 0).val := by
    blk_simp [idx0 t]
    omega
  rw [h0]
  congr 1

/-! ## The region over the thread state -/

/-- The TensorCore's unscoped buffers. -/
def tcBufs : Finset (DevRef τ sig) := (StableHlo.tcRefs τ sig).filter fun b => ¬ b.isScoped

theorem unscopedBufs_held (c : Dev nD) (X : Valuation τ sig (Elt F)) :
    (unscopedBufs c (fun b => X b) : sProp 𝕄) = StableHlo.held (c : Thread nD τ) tcBufs X := by
  unfold unscopedBufs StableHlo.held tcBufs StableHlo.tcRefs
  rw [Finset.filter_map, bigSep_map]
  rfl

theorem Otc_none (c : Dev nD) (n : ℕ) (g : GSem nD τ sig) : (K (F := F)).Otc (N := 1) c n g none = 0 := by
  by_contra h
  have := (K (F := F)).lev_of_Otc_pos (Nat.pos_of_ne_zero h)
  exact absurd this (by show ¬ _ ≤ 0; omega)

variable (W' : Dev nD → Valuation τ sig (Elt F))

set_option backward.isDefEq.respectTransparency.types false in
def reg (hout : ∀ c, W' c main_v1 = keys (W c main_v0)) (hne : ∀ c (b : Ref sig .tc), b ≠ main_v1 → W' c b = W c b) :
    Pipeline.RegionSeg (pcfgs (F := F)) adm (pdats W adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_intro _ _ _ _ c fun w s t => (K (F := F)).mayWait_none _ (Otc_none c 0)
  pre c := iprop(unscopedBufs c (fun b => W c b) ∗ ∃ X, ⌜(K (F := F)).WBelow (c : Thread nD τ) X 0⌝ ∗ owes (c : Thread nD τ) ((K (F := F)).Otc c 0) X)
  post c := iprop(unscopedBufs c (fun b => W' c b) ∗ ∃ X, ⌜(K (F := F)).WBelow (c : Thread nD τ) X 0⌝ ∗ owes (c : Thread nD τ) ((K (F := F)).Otc c 0) X)
  X _ := BI.emp
  Y _ := BI.emp
  Z c := Pipeline.unscopedRest (Ix := HIx 1) (Name := ℕ) (U := UU) (Lvl := ℕ) spec0 c (fun b => W c b)
  hentry c := by
    rw [Pipeline.ownSems0_none]
    have hsplit := Pipeline.arrays_of_unscopedBufs (p := 0) (pcfgs (F := F)) adm (pdats W adm) launch0.win launch0.arr_whole c
      ((pdats W adm 0 c).share_full fun _ => rfl) (fun b => W c b) fun _ => rfl
    iintro ⟨⟨Hub, %X, %hX, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists X; isplitr; · ipureintro; exact fun p hp => Or.inl (hX p hp)
      iexact HO
    isplitr; · iempintro
    iexact Hrest
  hin c := by
    rw [show (pdats W adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats W adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W adm) ((pdats W adm 0 c).share_full fun _ => rfl) (fun b => W c b) (fun b => W' c b) ((pdats W adm 0 c).arrAt · cfg0.N)
      (fun w => by
        fin_cases w
        · exact ((pdats W adm 0 c).arrAt_in 0 rfl _).trans (hne c main_v0 (by decide)).symm
        · exact (final W c).trans (hout c).symm)
      (fun b hb => hne c b fun h => hb (h ▸ Finset.mem_image.mpr ⟨1, Finset.mem_univ _, rfl⟩))
    iintro ⟨Ha, ⟨%X, %hX, HO⟩, -, Hrest⟩
    imodintro
    isplitl [Ha Hrest]
    · iapply hjoin; isplitl [Ha] <;> iassumption
    iexists X; isplitr
    · ipureintro
      intro p hp
      rcases hX hp with h | ⟨w, s, h⟩
      · exact h
      · rw [h]; exact le_rfl
    iexact HO

end Cert.Proof.KernelIdeal

end
-- ==== Proof.IdealCall.lean ====
/-
  The SparseCore call: what the TensorCore hands its vector subcores, what they hand back, and every subcore's obligation.
-/
module

public import proofs.«01_k».proof.Proof.IdealRegion

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Taking several members out of a family -/

theorem bigSep_list {ι : Type} [DecidableEq ι] (Φ : ι → sProp 𝕄) (l : List ι) : ∀ (s : Finset ι), l.Nodup → (∀ x ∈ l, x ∈ s) →
    bigSep s Φ = l.foldr (fun a R => iprop(Φ a ∗ R)) (bigSep (s \ l.toFinset) Φ) := by
  induction l with
  | nil => intro s _ _; simp
  | cons a l ih =>
    intro s hn hs
    have ha := List.nodup_cons.mp hn
    rw [SparseCore.bigSep_erase' (hs a List.mem_cons_self), ih (s.erase a) ha.2 fun x hx => Finset.mem_erase.mpr
      ⟨fun e => ha.1 (e ▸ hx), hs x (List.mem_cons_of_mem _ hx)⟩, List.foldr_cons]
    congr 3
    ext x; simp only [Finset.mem_sdiff, Finset.mem_erase, List.mem_toFinset, List.mem_cons]; tauto

/-! ## A tile's own buffers and semaphores -/

section Own

variable (d : Dev nD) (L : grid1.Coords)

def semL : List (DmaSem sig) := [cc1_scratch6.sem, cc1_scratch7.sem, cc1_scratch8.sem, cc1_scratch9.sem, cc1_scratch10.sem, cc1_scratch11.sem]
def bufL : List (Ref sig .scVector) := [cc1_scratch0, cc1_scratch1, cc1_scratch2, cc1_scratch3, cc1_scratch4, cc1_scratch5]

def cellL : List (GSem nD τ sig) := semL.map fun s => (thr d L, SemLoc.dma s)
def refL : List (DevRef τ sig) := bufL.map fun b => (Proc.scVector (cV L) (jV L)).devRef b

theorem ownSems0_V : (ownSems0 (thr d L) : sProp 𝕄)
    ⊢ iprop(Sems (F := F) d L ∗ bigSep (ownCells (thr d L) \ (cellL d L).toFinset) fun g => semVal g 0) := by
  unfold SparseCore.Cfg.ownSems0
  rw [bigSep_list _ (cellL d L) (ownCells (thr d L))]
  · unfold cellL semL Sems
    simp only [List.map_cons, List.map_nil, List.foldr_cons, List.foldr_nil]
    iintro ⟨H0, H1, H2, H3, H4, H5, HR⟩
    isplitr [HR]
    · isplitl [H0]; · iexact H0
      isplitl [H1]; · iexact H1
      isplitl [H2]; · iexact H2
      isplitl [H3]; · iexact H3
      isplitl [H4]; · iexact H4
      iexact H5
    · iexact HR
  · exact List.Nodup.map (fun a b e => by cases e; rfl) (by decide)
  · intro x hx
    obtain ⟨s, hs, rfl⟩ := List.mem_map.mp hx
    refine mem_ownCells.mpr ⟨rfl, ?_⟩
    show (SemLoc.dma s : SemLoc sig).isScoped .scVector = true
    clear hx; revert s; decide

theorem ownSems0_V' : iprop(Sems (F := F) d L ∗ bigSep (ownCells (thr d L) \ (cellL d L).toFinset) fun g => semVal g 0)
    ⊢ (ownSems0 (thr d L) : sProp 𝕄) := by
  unfold SparseCore.Cfg.ownSems0
  rw [bigSep_list _ (cellL d L) (ownCells (thr d L))]
  · unfold cellL semL Sems
    simp only [List.map_cons, List.map_nil, List.foldr_cons, List.foldr_nil]
    iintro ⟨⟨H0, H1, H2, H3, H4, H5⟩, HR⟩
    isplitl [H0]; · iexact H0
    isplitl [H1]; · iexact H1
    isplitl [H2]; · iexact H2
    isplitl [H3]; · iexact H3
    isplitl [H4]; · iexact H4
    isplitl [H5]; · iexact H5
    iexact HR
  · exact List.Nodup.map (fun a b e => by cases e; rfl) (by decide)
  · intro x hx
    obtain ⟨s, hs, rfl⟩ := List.mem_map.mp hx
    refine mem_ownCells.mpr ⟨rfl, ?_⟩
    show (SemLoc.dma s : SemLoc sig).isScoped .scVector = true
    clear hx; revert s; decide

theorem refL_nodup : (refL L).Nodup := List.Nodup.map (Proc.devRef_injective _) (show bufL.Nodup by decide +revert)
theorem refL_mem : ∀ x ∈ refL L, x ∈ ownRefs (τ := τ) (sig := sig) (.scVector (cV L) (jV L)) := by
  intro x hx
  obtain ⟨b, hb, rfl⟩ := List.mem_map.mp hx
  refine SparseCore.Cfg.mem_ownRefs_of_owner ?_
  simp only [bufL, List.mem_cons, List.not_mem_nil, or_false] at hb
  rcases hb with rfl | rfl | rfl | rfl | rfl | rfl <;> rfl

theorem ownBufs_V : (ownBufs (thr d L) : sProp 𝕄)
    ⊢ iprop(Bufs (F := F) d L ∗ bigSep (ownRefs (τ := τ) (.scVector (cV L) (jV L)) \ (refL L).toFinset) fun b => iprop(∃ f, ((d, b) : Loc nD τ sig) ↦{fullShare} f)) := by
  unfold SparseCore.Cfg.ownBufs
  rw [bigSep_list _ (refL L) (ownRefs (τ := τ) (.scVector (cV L) (jV L))) (refL_nodup L) (refL_mem L)]
  unfold refL bufL Bufs
  simp only [List.map_cons, List.map_nil, List.foldr_cons, List.foldr_nil, Memref.view_whole, View.set_whole]
  iintro ⟨H0, H1, H2, H3, H4, H5, HR⟩
  isplitr [HR]
  · isplitl [H0]; · iexact H0
    isplitl [H1]; · iexact H1
    isplitl [H2]; · iexact H2
    isplitl [H3]; · iexact H3
    isplitl [H4]; · iexact H4
    iexact H5
  · iexact HR

theorem ownBufs_V' : iprop(Bufs (F := F) d L ∗ bigSep (ownRefs (τ := τ) (.scVector (cV L) (jV L)) \ (refL L).toFinset) fun b => iprop(∃ f, ((d, b) : Loc nD τ sig) ↦{fullShare} f))
    ⊢ (ownBufs (thr d L) : sProp 𝕄) := by
  unfold SparseCore.Cfg.ownBufs
  rw [bigSep_list _ (refL L) (ownRefs (τ := τ) (.scVector (cV L) (jV L))) (refL_nodup L) (refL_mem L)]
  unfold refL bufL Bufs
  simp only [List.map_cons, List.map_nil, List.foldr_cons, List.foldr_nil, Memref.view_whole, View.set_whole]
  iintro ⟨⟨H0, H1, H2, H3, H4, H5⟩, HR⟩
  isplitl [H0]; · iexact H0
  isplitl [H1]; · iexact H1
  isplitl [H2]; · iexact H2
  isplitl [H3]; · iexact H3
  isplitl [H4]; · iexact H4
  isplitl [H5]; · iexact H5
  iexact HR

end Own

/-! ## The payloads -/

abbrev ksLoc (d : Dev nD) : Loc nD τ sig := ((d, main_v4_0) : Loc nD τ sig)
abbrev vsLoc (d : Dev nD) : Loc nD τ sig := ((d, main_v4_1) : Loc nD τ sig)
abbrev outLoc (d : Dev nD) : Loc nD τ sig := ((d, main_v5) : Loc nD τ sig)

variable (KS : (d : Dev nD) → Buf (Elt F) (ksLoc d)) (VS : (d : Dev nD) → Buf (Elt F) (vsLoc d)) (G0 : (d : Dev nD) → Buf (Elt F) (outLoc d))

/-- What tile `w` works on: a share of the sorted keys and values, and its rows of the result, at contents `g`. -/
def part (d : Dev nD) (g : Buf (Elt F) (outLoc d)) (w : ℕ) : sProp 𝕄 :=
  iprop((ksLoc d ↦{Transfers.shareTokN fullShare w} KS d) ∗ (vsLoc d ↦{Transfers.shareTokN fullShare w} VS d)
    ∗ (outLoc d ↦[rowsOf w]{fullShare} g) ∗ (outLoc d ↦[rowsOf (32 + w)]{fullShare} g))

/-- The result array as the call leaves it. -/
abbrev outG (d : Dev nD) : Buf (Elt F) (outLoc d) := outV (F := F) (KS d) (VS d)

/-- Everything SparseCore `c`'s sixteen tiles work on. -/
def parts (d : Dev nD) (g : Buf (Elt F) (outLoc d)) (c : ℕ) : sProp 𝕄 :=
  bigSep Finset.univ fun i : Fin 16 => part KS VS d g (2 * i.val + c)

instance part_storable (d : Dev nD) (g : Buf (Elt F) (outLoc d)) (w : ℕ) : BI.Storable (upEmb : UEmb _ 𝕄) (part KS VS d g w) := by
  unfold part; infer_instance
instance parts_storable (d : Dev nD) (g : Buf (Elt F) (outLoc d)) (c : ℕ) : BI.Storable (upEmb : UEmb _ 𝕄) (parts KS VS d g c) := by
  unfold parts; infer_instance

def P : (K (F := F)).Pay (nD := nD) (Val := Elt F) (Name := ℕ) (U := UU) where
  st := fun _ d c => parts KS VS d (G0 d) c.val
  dn := fun _ d c => parts KS VS d (outG KS VS d) c.val
  go := fun _ d c i => part KS VS d (G0 d) (2 * i.val + c.val)
  td := fun _ d c i => part KS VS d (outG KS VS d) (2 * i.val + c.val)
  x := fun _ _ => iprop(emp)

instance P_storable : (P KS VS G0).IsStorable where
  st _ d c := by unfold P; infer_instance
  dn _ d c := by unfold P; infer_instance
  go _ _ _ _ := by unfold P; infer_instance
  td _ _ _ _ := by unfold P; infer_instance

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## A tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem pts_k (d : Dev nD) (L : grid1.Coords) (q : PosShare TreeShare) (f : Buf (Elt F) (ksLoc d)) :
    ((ksM).view.loc (thr d L) ↦{q} f : sProp 𝕄) = ksLoc d ↦{q} f := by
  simp only [Memref.view_whole, View.set_whole]
theorem pts_v (d : Dev nD) (L : grid1.Coords) (q : PosShare TreeShare) (f : Buf (Elt F) (vsLoc d)) :
    ((vsM).view.loc (thr d L) ↦{q} f : sProp 𝕄) = vsLoc d ↦{q} f := by
  simp only [Memref.view_whole, View.set_whole]

theorem tile_body (hR : ∀ d, InRow (KS d)) (d : Dev nD) (L : grid1.Coords) (g : Buf (Elt F) (outLoc d)) (O : CellTallies nD τ sig (HIx 1))
    (W : Waits sig (HIx 1)) (hO : ∀ g, O g none = 0) :
    iprop(levAts (K (F := F)).L (K (F := F)).lev ∗ emp ∗ part KS VS d g (wid L)
        ∗ scopedBufs (thr d L) ∗ scopedSems0 (thr d L) ∗ owes (thr d L) O W)
      ⊢ wp frame (wpE (defs₀ (F := F)) 𝒱₀ (thr d L) none) Set.univ
        (cc1__scatter_sorted L ksM (Memref.isWhole_whole _) vsM (Memref.isWhole_whole _) outM (Memref.isWhole_whole _) k0M (Memref.isWhole_whole _)
          k1M (Memref.isWhole_whole _) v0M (Memref.isWhole_whole _) v1M (Memref.isWhole_whole _) o0M (Memref.isWhole_whole _) o1M (Memref.isWhole_whole _)
          cc1_scratch6 cc1_scratch7 cc1_scratch8 cc1_scratch9 cc1_scratch10 cc1_scratch11)
        fun _ => iprop(part KS VS d (outG KS VS d) (wid L) ∗ scopedBufs (thr d L) ∗ scopedSems0 (thr d L)
          ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L)]
  unfold part
  iintro ⟨#Hlv, -, ⟨Hk, Hv, Ho, Ho'⟩, Hsb, Hss, HO⟩
  ihave Hsb := (ownBufs_V (F := F) d L) $$ Hsb
  ihave Hss := (ownSems0_V (F := F) d L) $$ Hss
  icases Hsb with ⟨Hsb, Hrb⟩
  icases Hss with ⟨Hss, Hrs⟩
  ihave Hmw := ((K (F := F)).mayWaits_none (thr := thr d L) hO) $$ Hlv
  ihave Hk' := (BIBase.Entails.of_eq (pts_k (F := F) d L _ _).symm) $$ Hk
  ihave Hv' := (BIBase.Entails.of_eq (pts_v (F := F) d L _ _).symm) $$ Hv
  iapply (wp_wand frame _ _) $$ [Hk' Hv' Ho Ho' Hsb Hss Hmw HO]
  · iapply (tile (F := F) d L (Transfers.shareTokN fullShare (wid L)) (KS d) (VS d) O W (hR d) g)
    isplitl [Hk']; · iexact Hk'
    isplitl [Hv']; · iexact Hv'
    isplitl [Ho]; · iexact Ho
    isplitl [Ho']; · iexact Ho'
    isplitl [Hsb]; · iexact Hsb
    isplitl [Hss]; · iexact Hss
    unfold OW
    isplitl [Hmw]; · iexact Hmw
    iexists W
    isplitr; · ipureintro; exact fun p hp => Or.inl hp
    iexact HO
  · iintro %_ ⟨Hk, Hv, Ho, Ho', Hsb, Hss, HO⟩
    unfold OW
    icases HO with ⟨-, HO⟩
    ihave Hk := (BIBase.Entails.of_eq (pts_k (F := F) d L _ _)) $$ Hk
    ihave Hv := (BIBase.Entails.of_eq (pts_v (F := F) d L _ _)) $$ Hv
    isplitl [Hk Hv Ho Ho']
    · isplitl [Hk]; · iexact Hk
      isplitl [Hv]; · iexact Hv
      isplitl [Ho]; · iexact Ho
      iexact Ho'
    isplitl [Hsb Hrb]
    · iapply (ownBufs_V' (F := F) d L)
      isplitl [Hsb]; · iexact Hsb
      iexact Hrb
    isplitl [Hss Hrs]
    · iapply (ownSems0_V' (F := F) d L)
      isplitl [Hss]; · iexact Hss
      iexact Hrs
    iexact HO

theorem defs₀_tile (c : Fin τ.nSC) (s : Fin τ.nSub) :
    defs₀ (F := F) (.scVector c s) 1 () = SparseCore.onTile hcore1 hsub1 (fun c s => cc1__scatter_sorted (coordsV c s) ksM (Memref.isWhole_whole _)
      vsM (Memref.isWhole_whole _) outM (Memref.isWhole_whole _) k0M (Memref.isWhole_whole _) k1M (Memref.isWhole_whole _) v0M (Memref.isWhole_whole _)
      v1M (Memref.isWhole_whole _) o0M (Memref.isWhole_whole _) o1M (Memref.isWhole_whole _)
      cc1_scratch6 cc1_scratch7 cc1_scratch8 cc1_scratch9 cc1_scratch10 cc1_scratch11) ⟨⟩ c s := rfl

theorem tile_post {A B C : sProp 𝕄} {t : Thread nD τ} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hR : ∀ d, InRow (KS d)) : (K (F := F)).TileObl (D (F := F)) 𝒱 (P KS VS G0) v₀ 0 := by
  intro d c i O W hO _ _
  simp only [show (P KS VS G0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile]; simp only [SparseCore.onTile, hc, and_self, ↓reduceDIte]
  exact (tile_body KS VS hR d (coordsV ⟨_, hc.1⟩ ⟨_, hc.2⟩) (G0 d) O W hO).trans (wp_mono frame _ _ fun _ => tile_post)

/-! ## Dealing the arrays out and gathering them again -/

theorem vecSplit : (K (F := F)).VecSplit' (P KS VS G0) 0 := by
  intro d c
  show (bigSep Finset.univ fun i : Fin 16 => part KS VS d (G0 d) (2 * i.val + c.val)) ⊢ |={Set.univ}=> iprop(
    (bigSep Finset.univ fun i : Fin 16 => part KS VS d (G0 d) (2 * i.val + c.val))
    ∗ ((bigSep Finset.univ fun i : Fin 16 => part KS VS d (outG KS VS d) (2 * i.val + c.val))
      -∗ (bigSep Finset.univ fun i : Fin 16 => part KS VS d (outG KS VS d) (2 * i.val + c.val))))
  iintro H; imodintro
  isplitl [H]; · iexact H
  iintro H; iexact H

/-- The thirty-two tiles, two SparseCores of sixteen. -/
theorem tiles_range (Φ : ℕ → sProp 𝕄) :
    bigSep (Finset.range 32) Φ = bigSep Finset.univ fun c : Fin 2 => bigSep Finset.univ fun i : Fin 16 => Φ (2 * i.val + c.val) := by
  have h : Finset.range 32 = ((Finset.univ : Finset (Fin 2)) ×ˢ (Finset.univ : Finset (Fin 16))).image fun p => 2 * p.2.val + p.1.val := by decide
  rw [h, SparseCore.bigSep_image_of_injOn, SparseCore.bigSep_product]
  rintro ⟨a, b⟩ - ⟨a', b'⟩ - e
  have e : 2 * b.val + a.val = 2 * b'.val + a'.val := e
  have := a.isLt; have := a'.isLt
  exact Prod.ext (Fin.ext (show a.val = a'.val by omega)) (Fin.ext (show b.val = b'.val by omega))

theorem rows_disjoint {a b : ℕ} (h : a ≠ b) : Disjoint (rowsOf a) (rowsOf b) := by
  rw [Finset.disjoint_left]; intro i hi hj
  exact h ((Finset.mem_filter.mp hi).2.symm.trans (Finset.mem_filter.mp hj).2)

theorem rows_cover : (Finset.range 32).biUnion (fun w => rowsOf w ∪ rowsOf (32 + w)) = Finset.univ := by
  ext i
  simp only [Finset.mem_biUnion, Finset.mem_range, Finset.mem_union, Finset.mem_univ, iff_true, rowsOf, Finset.mem_filter, true_and]
  by_cases h : (i 0).val % 64 < 32
  · exact ⟨_, h, Or.inl rfl⟩
  · exact ⟨(i 0).val % 64 - 32, by omega, Or.inr (by omega)⟩

theorem out_rows (d : Dev nD) (g : Buf (Elt F) (outLoc d)) :
    (outLoc d ↦{fullShare} g : sProp 𝕄) = bigSep (Finset.range 32) fun w => iprop((outLoc d ↦[rowsOf w]{fullShare} g) ∗ (outLoc d ↦[rowsOf (32 + w)]{fullShare} g)) := by
  rw [show (outLoc d ↦{fullShare} g : sProp 𝕄) = (outLoc d ↦[(Finset.range 32).biUnion fun w => rowsOf w ∪ rowsOf (32 + w)]{fullShare} g : sProp 𝕄) by rw [rows_cover],
    pointsTo_biUnion (Finset.range 32) (ℓ := outLoc d) (fun w => rowsOf w ∪ rowsOf (32 + w))]
  · refine bigSep_congr fun w hw => ?_
    have := Finset.mem_range.mp hw
    exact BI.Entails.antisymm (pointsTo_union (rows_disjoint (by omega))).1 (pointsTo_union (rows_disjoint (by omega))).2
  · intro a ha b hb hab
    have := Finset.mem_range.mp ha; have := Finset.mem_range.mp hb
    simp only [Finset.disjoint_union_left, Finset.disjoint_union_right]
    exact ⟨⟨rows_disjoint (by omega), rows_disjoint (by omega)⟩, rows_disjoint (by omega), rows_disjoint (by omega)⟩

/-- What is left of the sorted arrays while the tiles hold their shares. -/
def kept (d : Dev nD) : sProp 𝕄 :=
  iprop((ksLoc d ↦{Transfers.shareDrop fullShare 32} KS d) ∗ (vsLoc d ↦{Transfers.shareDrop fullShare 32} VS d))

theorem parts_eq (d : Dev nD) (g : Buf (Elt F) (outLoc d)) :
    (bigSep Finset.univ fun c : Fin 2 => parts KS VS d g c.val) = iprop(
      (bigSep (Finset.range 32) fun w => (ksLoc d ↦{Transfers.shareTokN fullShare w} KS d : sProp 𝕄))
      ∗ (bigSep (Finset.range 32) fun w => (vsLoc d ↦{Transfers.shareTokN fullShare w} VS d : sProp 𝕄)) ∗ (outLoc d ↦{fullShare} g)) := by
  unfold parts
  rw [← tiles_range fun w => part KS VS d g w, out_rows]
  unfold part
  rw [bigSep_sep', bigSep_sep']

theorem deal (d : Dev nD) (g : Buf (Elt F) (outLoc d)) :
    iprop((ksLoc d ↦{fullShare} KS d) ∗ (vsLoc d ↦{fullShare} VS d) ∗ (outLoc d ↦{fullShare} g))
      ⊢ iprop((bigSep Finset.univ fun c : Fin 2 => parts KS VS d g c.val) ∗ kept KS VS d) := by
  rw [parts_eq]; unfold kept
  iintro ⟨Hk, Hv, Ho⟩
  ihave Hk := (Transfers.pointsTo_toks_range (nD := nD) fullShare 32).1 $$ Hk
  ihave Hv := (Transfers.pointsTo_toks_range (nD := nD) fullShare 32).1 $$ Hv
  icases Hk with ⟨Hkd, Hk⟩
  icases Hv with ⟨Hvd, Hv⟩
  isplitl [Hk Hv Ho]
  · isplitl [Hk]; · iexact Hk
    isplitl [Hv]; · iexact Hv
    iexact Ho
  isplitl [Hkd]; · iexact Hkd
  iexact Hvd

theorem undeal (d : Dev nD) (g : Buf (Elt F) (outLoc d)) :
    iprop((bigSep Finset.univ fun c : Fin 2 => parts KS VS d g c.val) ∗ kept KS VS d)
      ⊢ iprop((ksLoc d ↦{fullShare} KS d) ∗ (vsLoc d ↦{fullShare} VS d) ∗ (outLoc d ↦{fullShare} g)) := by
  rw [parts_eq]; unfold kept
  iintro ⟨⟨Hk, Hv, Ho⟩, Hkd, Hvd⟩
  isplitl [Hk Hkd]
  · iapply (Transfers.pointsTo_toks_range (nD := nD) fullShare 32).2
    isplitl [Hkd]; · iexact Hkd
    iexact Hk
  isplitl [Hv Hvd]
  · iapply (Transfers.pointsTo_toks_range (nD := nD) fullShare 32).2
    isplitl [Hvd]; · iexact Hvd
    iexact Hv
  iexact Ho

end Cert.Proof.KernelIdeal
-- ==== Proof.IdealLaunch.lean ====
/-
  The kernel's @main on the TensorCore, and the run of the whole program.
-/
module

public import proofs.«01_k».proof.Proof.IdealCall

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch's ghost state -/

abbrev EH : Emb UH (MT nD τ sig (HIx 1) (Elt F) ℕ UU ℕ) := embL
/-- The keys call's rounds: the left half of the right factor. -/
def EP : Emb (UR sig nD τ) (MT nD τ sig (HIx 1) (Elt F) ℕ UU ℕ) :=
  (Emb.inl : Emb (UR sig nD τ) (UR sig nD τ × Counters)).trans embR
instance EP_landsIn : (EP : Emb (UR sig nD τ) 𝕄).LandsIn (upEmb : UEmb _ 𝕄) := by unfold EP; infer_instance

abbrev adm₀ : (p : Fin 1) → ((pcfgs (F := F)) p).Adm := fun p => (cfgs p).toPCfg_adm

theorem cells_inj : Function.Injective (Pipeline.cellOf (nD := nD) (τ := τ) (Pipeline.pin (pcfgs (F := F)) adm₀)) := cellOf_inj

def u₀ : UU := (initOf (K (F := F)).hsCells (K (F := F)).hsToks,
  (initOf (Pipeline.cells (Pipeline.pin (pcfgs (F := F)) adm₀) cells_inj) (Pipeline.launchToks (Pipeline.pin (pcfgs (F := F)) adm₀) cells_inj), 1))

/-- What device `d`'s TensorCore is dealt for the keys call. -/
def G (d : Dev nD) : sProp 𝕄 :=
  iprop(Pipeline.cellsGhost (Pipeline.pin (pcfgs (F := F)) adm₀) EP 0 d ∗ Pipeline.toksInit (Pipeline.pin (pcfgs (F := F)) adm₀) EP 0 d)

variable (m : (ℓ : Loc nD τ sig) → Buf (Elt F) ℓ) (ρ : Dev nD → PrngReg)

/-! ## The TensorCore's arrays through @main -/

abbrev opIdx : HloOp τ sig (Elt F) := StableHlo.reshape main_arg1 main_v0 (rfl : (.i32 : EltTy) = .i32) shapeCasts_S4x192x96x96_S768x9216
abbrev opFlat : HloOp τ sig (Elt F) := StableHlo.reshape main_v1 main_v2 (rfl : (.i32 : EltTy) = .i32) shapeCasts_S768x9216_S7077888
abbrev opX : HloOp τ sig (Elt F) := StableHlo.reshape main_arg0 main_v3 (rfl : (.f32 : EltTy) = .f32) shapeCasts_S4x192x96x96_S7077888
abbrev opKeys : HloOp τ sig (Elt F) := StableHlo.binary main_v2 main_v3 main_v4_0
  ((fun x y => (Host.unstableSort2 S7077888 0 comparator_i32_f32_d0 x y).1) : (⟨S7077888, .i32⟩ : BufTy).Contents (Elt F) → (⟨S7077888, .f32⟩ : BufTy).Contents (Elt F) → (⟨S7077888, .i32⟩ : BufTy).Contents (Elt F))
abbrev opVals : HloOp τ sig (Elt F) := StableHlo.binary main_v2 main_v3 main_v4_1
  ((fun x y => (Host.unstableSort2 S7077888 0 comparator_i32_f32_d0 x y).2) : (⟨S7077888, .i32⟩ : BufTy).Contents (Elt F) → (⟨S7077888, .f32⟩ : BufTy).Contents (Elt F) → (⟨S7077888, .f32⟩ : BufTy).Contents (Elt F))
abbrev opOut : HloOp τ sig (Elt F) := StableHlo.reshape main_v5 main_v6 (rfl : (.f32 : EltTy) = .f32) shapeCasts_S768x36864_S4x192x192x192

abbrev V0 (d : Dev nD) : Valuation τ sig (Elt F) := fun b => m (d, b)
def V1 (d : Dev nD) : Valuation τ sig (Elt F) := (opIdx (F := F)).result (V0 m d)
def V2 (d : Dev nD) : Valuation τ sig (Elt F) := Function.update (V1 m d) (main_v1 : DevRef τ sig) (keys (V1 m d (main_v0 : DevRef τ sig)))
def V3 (d : Dev nD) : Valuation τ sig (Elt F) := (opFlat (F := F)).result (V2 m d)
def V4 (d : Dev nD) : Valuation τ sig (Elt F) := (opX (F := F)).result (V3 m d)
def V5 (d : Dev nD) : Valuation τ sig (Elt F) := (opKeys (F := F)).result (V4 m d)
def V6 (d : Dev nD) : Valuation τ sig (Elt F) := (opVals (F := F)).result (V5 m d)

/-- The sorted keys and values the SparseCore call is handed, and what is in its result's array before it. -/
abbrev KS (d : Dev nD) : Buf (Elt F) (ksLoc d) := V6 m d (main_v4_0 : DevRef τ sig)
abbrev VS (d : Dev nD) : Buf (Elt F) (vsLoc d) := V6 m d (main_v4_1 : DevRef τ sig)
abbrev O6 (d : Dev nD) : Buf (Elt F) (outLoc d) := V6 m d (main_v5 : DevRef τ sig)

def V7 (d : Dev nD) : Valuation τ sig (Elt F) := Function.update (V6 m d) (main_v5 : DevRef τ sig) (outG (KS m) (VS m) d)
def V8 (d : Dev nD) : Valuation τ sig (Elt F) := (opOut (F := F)).result (V7 m d)

abbrev PP : (K (F := F)).Pay (nD := nD) (Val := Elt F) (Name := ℕ) (U := UU) := P (KS m) (VS m) (O6 m)

/-! ## The keys call, as a step of @main -/

/-- The keys call, before the SparseCore labels are added. -/
def regionProg : Prog (TpuEff nD τ sig (Elt F) (ΛP (F := F)) .tc) PUnit := Prog.op (.customCall (Pipeline.entry 0) ()) fun x => .ret x

theorem regionProg_lift : SparseCore.liftProg (Q := 1) (regionProg (F := F)) = Prog.lift (TpuEff.customCall (SparseCore.inner (Pipeline.entry 0)) ()) := rfl

theorem region_step [∀ e, Nonempty (Elt F e)] (d : Dev nD) (Φ : PUnit → sProp 𝕄) :
    iprop((iprop(boundary (T d) ∗ held (T d) tcBufs (V2 m d) ∗ (K (F := F)).tcSt EH d 0) -∗ Φ ⟨⟩)
        ∗ boundary (T d) ∗ held (T d) tcBufs (V1 m d) ∗ (K (F := F)).tcSt EH d 0 ∗ levAts (K (F := F)).L (K (F := F)).lev ∗ G d)
      ⊢ wp frame (wpE ((K (F := F)).defs (D (F := F))) 𝒱 (T d) none) Set.univ (Prog.lift (.customCall (SparseCore.inner (Pipeline.entry 0)) ())) Φ := by
  have hl := (K (F := F)).wp_liftProg (D (F := F)) 𝒱 (T d) Set.univ none (regionProg (F := F)) Φ
  rw [regionProg_lift] at hl
  refine BIBase.Entails.trans ?_ hl
  have hr := Pipeline.RegionSeg.wp (pcfgs (F := F)) adm₀ (pdats (V1 m) adm₀) (none : HIx 1) cells_inj EP defs₀ 𝒱₀ (K (F := F)).L (K (F := F)).lev
    (reg (adm := adm₀) (V1 m) (V2 m) (fun c => Function.update_self _ _ _)
      (fun c b hb => Function.update_of_ne (StableHlo.devRef_ne_of_ne hb) _ _)) d none (fun _ h => nomatch h) (fun x => .ret x) Φ
  refine BIBase.Entails.trans ?_ hr
  unfold reg SparseCore.Cfg.tcSt G
  simp only [unscopedBufs_held]
  iintro ⟨Hk, Hb, Hh, ⟨HO, Hst⟩, Hlv, Hg, Ht⟩
  isplitl [Hk Hst]
  · iintro ⟨Hb, Hh, HO⟩
    rw [wp_ret]; imodintro
    iapply Hk
    isplitl [Hb]; · iexact Hb
    isplitl [Hh]; · iexact Hh
    isplitl [HO]; · iexact HO
    iexact Hst
  isplitl [Hb]; · iexact Hb
  isplitl [Hh HO]
  · isplitl [Hh]; · iexact Hh
    iexact HO
  isplitl [Hlv]; · iexact Hlv
  isplitl [Hg]; · iexact Hg
  iexact Ht

/-! ## The SparseCore call, as a step of @main -/

/-- The arrays the SparseCore call touches. -/
abbrev T3 : Finset (DevRef τ sig) := {(main_v4_0 : DevRef τ sig), (main_v4_1 : DevRef τ sig), (main_v5 : DevRef τ sig)}

theorem held_T3 (d : Dev nD) (W : Valuation τ sig (Elt F)) : (held (T d) T3 W : sProp 𝕄)
    = iprop((ksLoc d ↦{fullShare} W (main_v4_0 : DevRef τ sig)) ∗ (vsLoc d ↦{fullShare} W (main_v4_1 : DevRef τ sig)) ∗ (outLoc d ↦{fullShare} W (main_v5 : DevRef τ sig))) := by
  unfold held T3
  rw [SparseCore.bigSep_insert' (by decide), SparseCore.bigSep_insert' (by decide), bigSep_singleton]

theorem T3_sub : T3 ⊆ tcBufs := by decide

theorem V7_rest (d : Dev nD) : (held (T d) (tcBufs \ T3) (V7 m d) : sProp 𝕄) = held (T d) (tcBufs \ T3) (V6 m d) :=
  held_congr _ fun b hb => Function.update_of_ne (fun e => (Finset.mem_sdiff.mp hb).2 (by rw [e]; decide)) _ _

theorem held_V6 (d : Dev nD) : (held (T d) tcBufs (V6 m d) : sProp 𝕄)
    = iprop(((ksLoc d ↦{fullShare} KS m d) ∗ (vsLoc d ↦{fullShare} VS m d) ∗ (outLoc d ↦{fullShare} O6 m d)) ∗ held (T d) (tcBufs \ T3) (V6 m d)) := by
  rw [held_sub_split _ T3_sub, held_T3]

theorem V7_ks (d : Dev nD) : V7 m d (main_v4_0 : DevRef τ sig) = KS m d := Function.update_of_ne (show (main_v4_0 : DevRef τ sig) ≠ main_v5 by decide) _ _
theorem V7_vs (d : Dev nD) : V7 m d (main_v4_1 : DevRef τ sig) = VS m d := Function.update_of_ne (show (main_v4_1 : DevRef τ sig) ≠ main_v5 by decide) _ _
theorem V7_out (d : Dev nD) : V7 m d (main_v5 : DevRef τ sig) = outG (KS m) (VS m) d := Function.update_self _ _ _

theorem held_V7 (d : Dev nD) : (held (T d) tcBufs (V7 m d) : sProp 𝕄)
    = iprop(((ksLoc d ↦{fullShare} KS m d) ∗ (vsLoc d ↦{fullShare} VS m d) ∗ (outLoc d ↦{fullShare} outG (KS m) (VS m) d)) ∗ held (T d) (tcBufs \ T3) (V6 m d)) := by
  rw [held_sub_split _ T3_sub, held_T3, V7_rest, V7_ks, V7_vs, V7_out]

theorem sc_step (κ : GSem nD τ sig → ℕ) (d : Dev nD) (Φ : PUnit → sProp 𝕄) :
    iprop((K (F := F)).ctx EH (PP m) κ ∗ held (T d) tcBufs (V6 m d) ∗ (K (F := F)).tcSt EH d 0
        ∗ (iprop(held (T d) tcBufs (V7 m d) ∗ (K (F := F)).tcSt EH d 1) -∗ Φ ⟨⟩))
      ⊢ wp frame (wpE ((K (F := F)).defs (D (F := F))) 𝒱 (T d) none) Set.univ ((K (F := F)).run d 0) Φ := by
  rw [held_V6, held_V7]
  iintro ⟨#Hctx, ⟨H3, Hrest⟩, Hst, Hk⟩
  ihave H := (deal (KS m) (VS m) d (O6 m d)) $$ H3
  icases H with ⟨Hparts, Hkept⟩
  iapply ((K (F := F)).wp_run (D (F := F)) 𝒱 (EH := EH) (P := PP m) κ d 0)
  isplitr; · iexact Hctx
  isplitl [Hst]; · iexact Hst
  isplitl [Hparts]; · iexact Hparts
  iintro ⟨Hst, Hdn⟩
  iapply Hk
  isplitr [Hst]
  · isplitr [Hrest]
    · iapply (undeal (KS m) (VS m) d (outG (KS m) (VS m) d))
      isplitl [Hdn]; · iexact Hdn
      iexact Hkept
    · iexact Hrest
  · iexact Hst

/-! ## @main -/

theorem opIdx_sub : (opIdx (F := F)).bufs ⊆ tcBufs := show ({(main_arg1 : DevRef τ sig), (main_v0 : DevRef τ sig)} : Finset (DevRef τ sig)) ⊆ tcBufs by decide
theorem opFlat_sub : (opFlat (F := F)).bufs ⊆ tcBufs := show ({(main_v1 : DevRef τ sig), (main_v2 : DevRef τ sig)} : Finset (DevRef τ sig)) ⊆ tcBufs by decide
theorem opX_sub : (opX (F := F)).bufs ⊆ tcBufs := show ({(main_arg0 : DevRef τ sig), (main_v3 : DevRef τ sig)} : Finset (DevRef τ sig)) ⊆ tcBufs by decide
theorem opKeys_sub : (opKeys (F := F)).bufs ⊆ tcBufs := show ({(main_v2 : DevRef τ sig), (main_v3 : DevRef τ sig), (main_v4_0 : DevRef τ sig)} : Finset (DevRef τ sig)) ⊆ tcBufs by decide
theorem opVals_sub : (opVals (F := F)).bufs ⊆ tcBufs := show ({(main_v2 : DevRef τ sig), (main_v3 : DevRef τ sig), (main_v4_1 : DevRef τ sig)} : Finset (DevRef τ sig)) ⊆ tcBufs by decide
theorem opOut_sub : (opOut (F := F)).bufs ⊆ tcBufs := show ({(main_v5 : DevRef τ sig), (main_v6 : DevRef τ sig)} : Finset (DevRef τ sig)) ⊆ tcBufs by decide

/-- What @main leaves the claim: every array of the TensorCore's. -/
abbrev FIN (d : Dev nD) : sProp 𝕄 := held (T d) tcBufs (V8 m d)

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) tcBufs (V0 m d) from unscopedBufs_held d (V0 m d)]
  simp only [main, wp_bind, wp_pure]
  iintro ⟨#Hctx, Hst, ⟨Hb, Hh, Hts, -⟩, HG⟩
  iapply (wp_hlo_within 𝒱 (SparseCore.T d) none Set.univ (op := opIdx (F := F)) (S := tcBufs) opIdx_sub (V := V0 m d)) $$ [Hb Hh]
  · isplitl [Hb]; · iexact Hb
    iexact Hh
  iintro ⟨Hb, Hh⟩
  rw [wp_ret]; imodintro
  iapply (region_step m d _)
  isplitr [Hb Hh Hst HG]
  · iintro ⟨Hb, Hh, Hst⟩
    iapply (wp_hlo_within 𝒱 (SparseCore.T d) none Set.univ (op := opFlat (F := F)) (S := tcBufs) opFlat_sub (V := V2 m d)) $$ [Hb Hh]
    · isplitl [Hb]; · iexact Hb
      iexact Hh
    iintro ⟨Hb, Hh⟩
    rw [wp_ret]; imodintro
    iapply (wp_hlo_within 𝒱 (SparseCore.T d) none Set.univ (op := opX (F := F)) (S := tcBufs) opX_sub (V := V3 m d)) $$ [Hb Hh]
    · isplitl [Hb]; · iexact Hb
      iexact Hh
    iintro ⟨Hb, Hh⟩
    rw [wp_ret]; imodintro
    iapply (wp_hlo_within 𝒱 (SparseCore.T d) none Set.univ (op := opKeys (F := F)) (S := tcBufs) opKeys_sub (V := V4 m d)) $$ [Hb Hh]
    · isplitl [Hb]; · iexact Hb
      iexact Hh
    iintro ⟨Hb, Hh⟩
    rw [wp_ret]; imodintro
    iapply (wp_hlo_within 𝒱 (SparseCore.T d) none Set.univ (op := opVals (F := F)) (S := tcBufs) opVals_sub (V := V5 m d)) $$ [Hb Hh]
    · isplitl [Hb]; · iexact Hb
      iexact Hh
    iintro ⟨Hb, Hh⟩
    rw [wp_ret]; imodintro
    iapply (sc_step m κ d _)
    isplitr; · iexact Hctx
    isplitl [Hh]; · iexact Hh
    isplitl [Hst]; · iexact Hst
    iintro ⟨Hh, Hst⟩
    iapply (wp_hlo_within 𝒱 (SparseCore.T d) none Set.univ (op := opOut (F := F)) (S := tcBufs) opOut_sub (V := V7 m d)) $$ [Hb Hh]
    · isplitl [Hb]; · iexact Hb
      iexact Hh
    iintro ⟨Hb, Hh⟩
    rw [wp_ret]; imodintro
    imodintro
    isplitl [Hst]; · iexact Hst
    isplitl [Hh]; · iexact Hh
    isplitl [Hb] <;> iassumption
  · isplitl [Hb]; · iexact Hb
    isplitl [Hh]; · iexact Hh
    isplitl [Hst]; · iexact Hst
    isplitr; · iapply (SparseCore.Cfg.ctx_levAts κ); iexact Hctx
    iexact HG

/-! ## The launch element, dealt -/

theorem none_held {I : Type} (s : Finset I) : (bigSep s fun _ => iprop(emp)) = (iprop(emp) : sProp 𝕄) := bigSep_emp_const s

theorem own_EP (x : UR sig nD τ) : (BI.own (((Emb.inl : Emb (UR sig nD τ) (UR sig nD τ × Counters)).trans (embR : Emb _ 𝕄)) x) : sProp 𝕄) ⊢ BI.own (EP x) := .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb embR _ _) $$ HR
  icases H with ⟨HP, -⟩
  ihave HP := (own_EP _) $$ HP
  imod (Pipeline.fund_ghost (Pipeline.pin (pcfgs (F := F)) adm₀) EP cells_inj) $$ HP with ⟨Hg, Ht⟩
  imodintro
  isplitl [HH]; · iexact HH
  isplitl [Hg Ht]
  · unfold G
    rw [bigSep_sep']
    simp only [bigSep_univ_of_subsingleton (0 : Fin 1)]
    isplitl [Hg]; · iexact Hg
    iexact Ht
  · unfold PP P; dsimp only
    rw [show (bigSep Finset.univ fun _ : Thread nD τ => bigSep Finset.univ fun _ : Fin 1 => (iprop(emp) : sProp 𝕄)) = iprop(emp) from by
      rw [bigSep_congr fun _ _ => none_held _, none_held]]
    iempintro

/-! ## What the claim reads off the final memory -/

def fq (d : Dev nD) (s' : Phys nD τ sig (Elt F)) : Prop := ∀ b ∈ tcBufs, s'.mem.mem (d, b) = V8 m d b

theorem hfin (d : Dev nD) (s' : Phys nD τ sig (Elt F)) : iprop(FIN m d ∗ SI s') ⊢ (⌜fq m d s'⌝ : sProp 𝕄) := by
  refine BIBase.Entails.trans (forall_intro fun b => ?_) pure_forall.2
  by_cases hb : b ∈ tcBufs
  · unfold FIN held
    rw [SparseCore.bigSep_erase' hb]
    iintro ⟨⟨Hb, -⟩, HSI⟩
    ihave H := (SI_pointsTo_agree (st := s') (ℓ := (d, b)) (I := Finset.univ) (q := fullShare) (f := V8 m d b)) $$ [HSI Hb]
    · isplitl [HSI] <;> iassumption
    icases H with %h
    ipureintro; exact fun _ => funext fun i => h i (Finset.mem_univ i)
  · iintro -
    ipureintro; exact fun h => absurd h hb

def QC : PUnit × MemSt nD τ sig (Elt F) → Prop := fun r => (∀ d : Dev nD, ∀ b ∈ tcBufs, r.2.mem (d, b) = V8 m d b) ∧ r.2.sem = fun _ => 0

theorem run_main [∀ e, Nonempty (Elt F e)] (hR : ∀ d, InRow (KS m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (KS m) (VS m) (O6 m) hR)
    (fun q _ => match q with | 0 => SparseCore.Cfg.VecSplit.of_plain (vecSplit (KS m) (VS m) (O6 m)))
    m ρ main (G (F := F)) (FIN m) (u₀ (F := F)) (sep_elim_left.trans (hu₀ m)) (hmain m ρ) (fq m) (hfin m) (QC m) (fun _ h hz => ⟨h, hz⟩)

end Cert.Proof.KernelIdeal
-- ==== Proof.IdealValue.lean ====
/-
  What the kernel computes: the sorted keys and values row by row, and each element of the result.
-/
module

public import proofs.«01_k».proof.Proof.IdealLaunch
public import proofs.«01_k».proof.Proof.Sort
public import Idealize.ShloMosaic.Lib.ValueIdxCore

@[expose] public section

noncomputable section

namespace Cert.Proof.KernelIdeal

open Cert.KernelIdeal Cert.KernelIdeal.Gen

open Idealize.ShloMosaic
open Idealize.ShloMosaic.TcCoe

open Idealize.ShloMosaic.StableHlo
open Idealize.SL.Sem
open Cert.Proof.Scat (scat scat_hit scat_miss)

variable {F : FTy → Type} [FloatOps F]
variable (m : (ℓ : Loc nD τ sig) → Buf (Elt F) ℓ) (ρ : Dev nD → PrngReg) (d : Dev nD)

/-! ## The buffers -/

/-- The indices and the values, a row per (batch, channel). -/
def IX : S768x9216.Idx → BitVec 32 := shapeCast S768x9216 (m (d, (main_arg1 : DevRef τ sig))) shapeCasts_S4x192x96x96_S768x9216
def AX : S768x9216.Idx → F .f32 := shapeCast S768x9216 (m (d, (main_arg0 : DevRef τ sig))) shapeCasts_S4x192x96x96_S768x9216
/-- The arrays handed to the sort. -/
def KX : S7077888.Idx → BitVec 32 := shapeCast S7077888 (keys (IX m d)) shapeCasts_S768x9216_S7077888
def FX : S7077888.Idx → F .f32 := shapeCast S7077888 (m (d, (main_arg0 : DevRef τ sig))) shapeCasts_S4x192x96x96_S7077888

theorem V4_keys : V4 m d (main_v2 : DevRef τ sig) = KX m d := by
  refine (reshape_result_ne _ _ _ _ _ _ (V3 m d) (show main_v2 ≠ main_v3 by decide)).trans ?_
  refine (reshape_result' _ _ _ _ (V2 m d)).trans ?_
  show shapeCast S7077888 (V2 m d (main_v1 : DevRef τ sig)) shapeCasts_S768x9216_S7077888 = _
  unfold KX V2
  rw [Function.update_self]
  refine congrArg (fun z => shapeCast S7077888 (keys z) shapeCasts_S768x9216_S7077888) ?_
  exact reshape_result' _ _ _ _ (V0 m d)

theorem V4_vals : V4 m d (main_v3 : DevRef τ sig) = FX m d := by
  refine (reshape_result' _ _ _ _ (V3 m d)).trans ?_
  show shapeCast S7077888 (V3 m d (main_arg0 : DevRef τ sig)) shapeCasts_S4x192x96x96_S7077888 = _
  unfold FX
  refine congrArg (fun z => shapeCast S7077888 z shapeCasts_S4x192x96x96_S7077888) ?_
  refine (reshape_result_ne _ _ _ _ _ _ (V2 m d) (show main_arg0 ≠ main_v2 by decide)).trans ?_
  refine (Function.update_of_ne (show (main_arg0 : DevRef τ sig) ≠ main_v1 by decide) _ _).trans ?_
  exact reshape_result_ne _ _ _ _ _ _ (V0 m d) (show main_arg0 ≠ main_v0 by decide)

theorem KS_eq : KS m d = (Host.unstableSort2 S7077888 0 comparator_i32_f32_d0 (KX m d) (FX m d)).1 := by
  refine (binary_result_ne _ _ _ _ _ _ _ (V5 m d) (show main_v4_0 ≠ main_v4_1 by decide)).trans ?_
  refine (binary_result' _ _ _ _ (V4 m d)).trans ?_
  show (Host.unstableSort2 S7077888 0 comparator_i32_f32_d0 (V4 m d (main_v2 : DevRef τ sig)) (V4 m d (main_v3 : DevRef τ sig))).1 = _
  rw [V4_keys, V4_vals]

theorem VS_eq : VS m d = (Host.unstableSort2 S7077888 0 comparator_i32_f32_d0 (KX m d) (FX m d)).2 := by
  refine (binary_result' _ _ _ _ (V5 m d)).trans ?_
  show (Host.unstableSort2 S7077888 0 comparator_i32_f32_d0 (V5 m d (main_v2 : DevRef τ sig)) (V5 m d (main_v3 : DevRef τ sig))).2 = _
  have h2 : V5 m d (main_v2 : DevRef τ sig) = V4 m d (main_v2 : DevRef τ sig) := binary_result_ne _ _ _ _ _ _ _ (V4 m d) (show main_v2 ≠ main_v4_0 by decide)
  have h3 : V5 m d (main_v3 : DevRef τ sig) = V4 m d (main_v3 : DevRef τ sig) := binary_result_ne _ _ _ _ _ _ _ (V4 m d) (show main_v3 ≠ main_v4_0 by decide)
  rw [h2, h3, V4_keys, V4_vals]

theorem V8_out : V8 m d (main_v6 : DevRef τ sig)
    = shapeCast S4x192x192x192 (outV (KS m d) (VS m d)) shapeCasts_S768x36864_S4x192x192x192 := by
  refine (reshape_result' _ _ _ _ (V7 m d)).trans ?_
  show shapeCast S4x192x192x192 (V7 m d (main_v5 : DevRef τ sig)) shapeCasts_S768x36864_S4x192x192x192 = _
  rw [V7_out]

/-- No operation writes an array that none of them has as its result. -/
theorem V8_arg (r : Ref sig .tc) (h0 : r ≠ main_v0) (h1 : (r : DevRef τ sig) ≠ main_v1) (h2 : r ≠ main_v2) (h3 : r ≠ main_v3)
    (h4 : r ≠ main_v4_0) (h4' : r ≠ main_v4_1) (h5 : (r : DevRef τ sig) ≠ main_v5) (h6 : r ≠ main_v6) :
    V8 m d (r : DevRef τ sig) = m (d, (r : DevRef τ sig)) := by
  refine (reshape_result_ne _ _ _ _ _ _ (V7 m d) h6).trans ?_
  refine (Function.update_of_ne h5 _ _).trans ?_
  refine (binary_result_ne _ _ _ _ _ _ _ (V5 m d) h4').trans ?_
  refine (binary_result_ne _ _ _ _ _ _ _ (V4 m d) h4).trans ?_
  refine (reshape_result_ne _ _ _ _ _ _ (V3 m d) h3).trans ?_
  refine (reshape_result_ne _ _ _ _ _ _ (V2 m d) h2).trans ?_
  refine (Function.update_of_ne h1 _ _).trans ?_
  exact reshape_result_ne _ _ _ _ _ _ (V0 m d) h0

theorem V8_arg0 : V8 m d (main_arg0 : DevRef τ sig) = m (d, (main_arg0 : DevRef τ sig)) := by
  refine V8_arg m d _ ?_ ?_ ?_ ?_ ?_ ?_ ?_ ?_ <;> decide
theorem V8_arg1 : V8 m d (main_arg1 : DevRef τ sig) = m (d, (main_arg1 : DevRef τ sig)) := by
  refine V8_arg m d _ ?_ ?_ ?_ ?_ ?_ ?_ ?_ ?_ <;> decide
theorem V8_arg2 : V8 m d (main_arg2 : DevRef τ sig) = m (d, (main_arg2 : DevRef τ sig)) := by
  refine V8_arg m d _ ?_ ?_ ?_ ?_ ?_ ?_ ?_ ?_ <;> decide

/-! ## The sorted rows -/

theorem key_toNat {r : ℕ} (hr : r < 768) {v : BitVec 32} (hv : v.toNat < 36864) : (key r v).toNat = 36864 * r + v.toNat := by
  have h0 : ¬ IntOp.cmpi .slt v 0#32 = 1#1 := by
    rw [Sort.slt_one_iff (by omega) (by decide)]
    exact Nat.not_lt_zero _
  unfold key
  rw [if_neg h0, BitVec.toNat_add, BitVec.toNat_mul, BitVec.toNat_ofNat]
  show (v.toNat + r % 2 ^ 32 * 36864 % 2 ^ 32) % 2 ^ 32 = _
  omega

theorem key_sub {r : ℕ} (hr : r < 768) {v : BitVec 32} (hv : v.toNat < 36864) : (key r v - BitVec.ofNat 32 (36864 * r)).toNat = v.toNat := by
  rw [BitVec.toNat_sub, key_toNat hr hv, BitVec.toNat_ofNat]
  omega

theorem KX_pos (q : Fin 7077888) (r : Fin 768) (k : Fin 9216) (h : q.val = 9216 * r.val + k.val) :
    KX m d (Shape.Idx.ofFin q) = key r.val (IX m d (ValueIdx.ix2 r k)) := by
  refine shapeCast_apply (keys (IX m d)) _ (Shape.Idx.ofFin q) (ValueIdx.ix2 r k) ?_
  rw [Shape.rowMajor_val_two, Shape.rowMajor_val_one]
  show r.val * 9216 + k.val = q.val
  omega

theorem FX_pos (q : Fin 7077888) (r : Fin 768) (k : Fin 9216) (h : q.val = 9216 * r.val + k.val) :
    FX m d (Shape.Idx.ofFin q) = AX m d (ValueIdx.ix2 r k) := by
  refine shapeCast_apply (m (d, (main_arg0 : DevRef τ sig))) _ (Shape.Idx.ofFin q) (Shape.reshapeEquiv shapeCasts_S4x192x96x96_S768x9216 (ValueIdx.ix2 r k)) ?_
  rw [Shape.rowMajor_reshapeEquiv, Shape.rowMajor_val_two, Shape.rowMajor_val_one]
  show r.val * 9216 + k.val = q.val
  omega

variable (hX : ∀ i, (IX m d i).toNat < 36864)

include hX in
/-- Row `r` of the sorted arrays holds row `r`'s (key, value) pairs, in some order. -/
theorem rows : (∀ (r : Fin 768) (k : Fin 9216), ∃ k' : Fin 9216, krow (KS m d) r.val k.val = key r.val (IX m d (ValueIdx.ix2 r k')) ∧ vrow (VS m d) r.val k.val = AX m d (ValueIdx.ix2 r k'))
    ∧ ∀ (r : Fin 768) (k' : Fin 9216), ∃ k : Fin 9216, krow (KS m d) r.val k.val = key r.val (IX m d (ValueIdx.ix2 r k')) := by
  have hp : ∀ q : Fin 7077888, ∃ (r : Fin 768) (k : Fin 9216), q.val = 9216 * r.val + k.val ∧ q.val / 9216 = r.val := fun q =>
    ⟨⟨q.val / 9216, by have := q.isLt; omega⟩, ⟨q.val % 9216, Nat.mod_lt _ (by decide)⟩, (Nat.div_add_mod q.val 9216).symm, rfl⟩
  obtain ⟨π, h1, h2, h3⟩ := Sort.sort_rows (n := 7077888) (c := 9216) (w := 36864) comparator_i32_f32_d0 (fun _ _ => rfl) (KX m d) (FX m d) (by decide)
    (fun q => by
      obtain ⟨r, k, hq, hr⟩ := hp q
      rw [KX_pos m d q r k hq, key_toNat r.isLt (hX _), hr]
      have := hX (ValueIdx.ix2 r k)
      omega)
    (fun q => by
      obtain ⟨r, k, hq, hr⟩ := hp q
      rw [KX_pos m d q r k hq, key_toNat r.isLt (hX _)]
      have := hX (ValueIdx.ix2 r k)
      have := r.isLt
      omega)
  have hk : ∀ (r : Fin 768) (k : Fin 9216) (hlt : 9216 * r.val + k.val < 7077888), krow (KS m d) r.val k.val = KX m d (Shape.Idx.ofFin (π ⟨9216 * r.val + k.val, hlt⟩)) := by
    intro r k hlt
    rw [← h1, krow, if_pos k.isLt, keyAt, dif_pos hlt, KS_eq]
    exact congrArg _ (ext1 rfl)
  have hv : ∀ (r : Fin 768) (k : Fin 9216) (hlt : 9216 * r.val + k.val < 7077888), vrow (VS m d) r.val k.val = FX m d (Shape.Idx.ofFin (π ⟨9216 * r.val + k.val, hlt⟩)) := by
    intro r k hlt
    rw [← h2, vrow, valAt, dif_pos hlt, VS_eq]
    exact congrArg _ (ext1 rfl)
  have hlt : ∀ (r : Fin 768) (k : Fin 9216), 9216 * r.val + k.val < 7077888 := fun r k => by have := r.isLt; have := k.isLt; omega
  constructor
  · intro r k
    obtain ⟨r', k', hq, hr⟩ := hp (π ⟨9216 * r.val + k.val, hlt r k⟩)
    have h := h3 ⟨9216 * r.val + k.val, hlt r k⟩
    have hrr : r' = r := Fin.ext (by
      have := k.isLt
      have h : (π ⟨9216 * r.val + k.val, hlt r k⟩).val / 9216 = (9216 * r.val + k.val) / 9216 := h
      omega)
    subst hrr
    exact ⟨k', (hk _ _ _).trans (KX_pos m d _ _ _ hq), (hv _ _ _).trans (FX_pos m d _ _ _ hq)⟩
  · intro r k'
    obtain ⟨r', k, hq, hr⟩ := hp (π.symm ⟨9216 * r.val + k'.val, hlt r k'⟩)
    have h := h3 (π.symm ⟨9216 * r.val + k'.val, hlt r k'⟩)
    rw [Equiv.apply_symm_apply] at h
    have hrr : r' = r := Fin.ext (by
      have := k'.isLt
      have h : (9216 * r.val + k'.val) / 9216 = (π.symm ⟨9216 * r.val + k'.val, hlt r k'⟩).val / 9216 := h
      omega)
    subst hrr
    have he : π ⟨9216 * r'.val + k.val, hlt r' k⟩ = ⟨9216 * r'.val + k'.val, hlt r' k'⟩ := by
      rw [← Equiv.eq_symm_apply]; exact Fin.ext hq.symm
    refine ⟨k, (hk _ _ (hlt r' k)).trans ?_⟩
    rw [he]
    exact KX_pos m d _ _ _ rfl

include hX in
theorem inRow : InRow (KS m d) := by
  intro r k hr hk
  obtain ⟨k', h, -⟩ := (rows m d hX).1 ⟨r, hr⟩ ⟨k, hk⟩
  rw [h]
  exact lt_of_eq_of_lt (key_sub hr (hX _)) (hX _)

/-! ## The result's elements -/

theorem outV_at (r : Fin 768) (e : Fin 36864) : outV (KS m d) (VS m d) (ValueIdx.ix2 r e)
    = scat (krow (KS m d) r.val) (vrow (VS m d) r.val) (BitVec.ofNat 32 (36864 * r.val)) 9216 (at1 e.val e.isLt) := rfl

include hX in
/-- An element some position of its row names holds the value of such a position. -/
theorem out_hit (r : Fin 768) (e : Fin 36864) (k : Fin 9216) (hk : (IX m d (ValueIdx.ix2 r k)).toNat = e.val) :
    ∃ k' : Fin 9216, (IX m d (ValueIdx.ix2 r k')).toNat = e.val ∧ outV (KS m d) (VS m d) (ValueIdx.ix2 r e) = AX m d (ValueIdx.ix2 r k') := by
  obtain ⟨hr1, hr2⟩ := rows m d hX
  obtain ⟨j, hj⟩ := hr2 r k
  obtain ⟨n, hn, hne, hval⟩ := scat_hit (krow (KS m d) r.val) (vrow (VS m d) r.val) (BitVec.ofNat 32 (36864 * r.val)) 9216 (at1 e.val e.isLt)
    (fun n hn h => by
      obtain ⟨k', h', -⟩ := hr1 r ⟨n, hn⟩
      have h' : krow (KS m d) r.val n = key r.val (IX m d (ValueIdx.ix2 r k')) := h'
      rw [h', krow, if_neg (lt_irrefl _)] at h
      have h := congrArg BitVec.toNat h
      rw [key_toNat r.isLt (hX _)] at h
      have := hX (ValueIdx.ix2 r k')
      have := r.isLt
      have h : 36864 * r.val + (IX m d (ValueIdx.ix2 r k')).toNat = 2147483647 := h
      omega)
    ⟨j.val, j.isLt, by rw [hj, key_sub r.isLt (hX _), hk]; rfl⟩
  obtain ⟨k', h1, h2⟩ := hr1 r ⟨n, hn⟩
  refine ⟨k', ?_, ?_⟩
  · have h1 : krow (KS m d) r.val n = key r.val (IX m d (ValueIdx.ix2 r k')) := h1
    rw [h1, key_sub r.isLt (hX _)] at hne
    exact hne.symm
  · exact (outV_at m d r e).trans (hval.trans h2)

include hX in
/-- An element no position of its row names is zero. -/
theorem out_miss (r : Fin 768) (e : Fin 36864) (h : ∀ k : Fin 9216, (IX m d (ValueIdx.ix2 r k)).toNat ≠ e.val) :
    outV (KS m d) (VS m d) (ValueIdx.ix2 r e) = Scalar.ofBits .f32 0x00000000#32 := by
  refine (outV_at m d r e).trans (scat_miss _ _ _ _ _ fun n hn hne => ?_)
  obtain ⟨k', h1, -⟩ := (rows m d hX).1 r ⟨n, hn⟩
  have h1 : krow (KS m d) r.val n = key r.val (IX m d (ValueIdx.ix2 r k')) := h1
  rw [h1, key_sub r.isLt (hX _)] at hne
  exact h k' hne.symm

end Cert.Proof.KernelIdeal

end
-- ==== Proof.IdealFrame.lean ====
/-
  The kernel's run leaves its arguments as they were.
-/
module

public import proofs.«01_k».proof.Proof.IdealValue

@[expose] public section

noncomputable section

namespace Cert.Proof.KernelIdeal

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem mem_tcBufs6 : (main_v6 : DevRef τ sig) ∈ tcBufs := by decide
theorem mem_tcBufs_arg0 : (main_arg0 : DevRef τ sig) ∈ tcBufs := by decide
theorem mem_tcBufs_arg1 : (main_arg1 : DevRef τ sig) ∈ tcBufs := by decide
theorem mem_tcBufs_arg2 : (main_arg2 : DevRef τ sig) ∈ tcBufs := by decide

theorem run_value [∀ e, Nonempty (Elt F e)] (hX : ∀ d i, (IX m d i).toNat < 36864) :
    θ_run (Cert.KernelIdeal.defs (F := F)) (Cert.KernelIdeal.threads (F := F)) ⟨m, fun _ => 0, ρ⟩ fun r =>
      (∀ c : Dev nD, r.2.mem ((c.tc : Thread nD τ).loc main_v6) = shapeCast S4x192x192x192 (outV (KS m c) (VS m c)) shapeCasts_S768x36864_S4x192x192x192)
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run _ _ _).mono (fun _ h => ⟨fun c => (h.1 c _ mem_tcBufs6).trans (V8_out m c),
      fun c => ⟨(h.1 c _ mem_tcBufs_arg0).trans (V8_arg0 m c), (h.1 c _ mem_tcBufs_arg1).trans (V8_arg1 m c), (h.1 c _ mem_tcBufs_arg2).trans (V8_arg2 m c)⟩, h.2⟩)
    (run_main m ρ fun d => inRow m d (hX d))

end Cert.Proof.KernelIdeal

end
-- ==== Proof.Pre.lean ====
/-
  The precondition: every index lies in its plane.
-/
module

public import proofs.«01_k».proof.Pre_idx_in_range
public import Idealize.ShloMosaic.Lib.Pipeline.Value

@[expose] public section

namespace Cert.Proof.Pre

open Idealize.ShloMosaic

variable {F : FTy → Type} [FloatOps F] [Cert.Pre_idx_in_range.Facts]

theorem in_range_of_bits {v : BitVec 32} (e : IntOp.andi (IntOp.cmpi .sge v 0#32) (IntOp.cmpi .slt v 36864#32) = 1#1) : v.toNat < 36864 := by
  have h1 (p : Bool) : (BitVec.ofBool p = 1#1) ↔ p = true := by cases p <;> decide
  have h2 (p q : Bool) : IntOp.andi (BitVec.ofBool p) (BitVec.ofBool q) = BitVec.ofBool (p && q) := by cases p <;> cases q <;> decide
  simp only [IntOp.cmpi, h1, h2, Bool.and_eq_true, BitVec.sle_eq_decide, BitVec.slt_eq_decide, decide_eq_true_eq,
    BitVec.toInt_eq_toNat_cond, BitVec.toNat_ofNat, Nat.reducePow, Nat.reduceMod] at e
  omega

theorem in_range {x : FVec F ⟨4, ![4, 192, 96, 96]⟩ .f32} {I : IVec ⟨4, ![4, 192, 96, 96]⟩ 32} {x1 : FVec F ⟨4, ![4, 192, 192, 192]⟩ .f32}
    (h : Cert.Pre_idx_in_range.fn (F := F) x I x1 = fun _ => 1#1) (i : (⟨4, ![4, 192, 96, 96]⟩ : Shape).Idx) : (I i).toNat < 36864 := by
  have e := congrFun h i
  simp only [Cert.Pre_idx_in_range.fn, andi, cmpi, broadcastInDim, constantI] at e
  exact in_range_of_bits e

/-- … in any grouping of the planes into rows. -/
theorem in_range_cast {x : FVec F ⟨4, ![4, 192, 96, 96]⟩ .f32} {I : IVec ⟨4, ![4, 192, 96, 96]⟩ 32} {x1 : FVec F ⟨4, ![4, 192, 192, 192]⟩ .f32}
    (h : Cert.Pre_idx_in_range.fn (F := F) x I x1 = fun _ => 1#1) {t : Shape} (hc : (⟨4, ![4, 192, 96, 96]⟩ : Shape).ShapeCasts t) (i : t.Idx) :
    (shapeCast t I hc i).toNat < 36864 := in_range h _

end Cert.Proof.Pre
-- ==== Proof.Ref.lean ====
/-
  The reference's scatter, its read-back and its count, read at an element.
-/
module

public import Idealize.ShloMosaic.Lib.Routing.OpsSet
public import Idealize.ShloMosaic.Lib.Routing.OpsPair
public import Idealize.ShloMosaic.Lib.ShapeFacts
public import Idealize.ShloMosaic.Lib.Pipeline.Value
public import Idealize.ShloMosaic.PureOps.Ideal

@[expose] public section

noncomputable section

namespace Cert.Proof.Ref

open Idealize.ShloMosaic Idealize.ShloMosaic.Routing
open Idealize.ShloMosaic.ValueIdx

abbrev S0 : Shape := ⟨0, ![]⟩
abbrev SV : Shape := ⟨1, ![768]⟩
abbrev SC : Shape := ⟨2, ![768, 1]⟩
abbrev SR : Shape := ⟨2, ![768, 9216]⟩
abbrev SR1 : Shape := ⟨3, ![768, 9216, 1]⟩
abbrev SP : Shape := ⟨3, ![768, 9216, 2]⟩
abbrev SO : Shape := ⟨2, ![768, 36864]⟩

/-! ## The index pairs -/

/-- The row numbers, as a column. -/
def rowsOf (h : SV.BroadcastsInDim SC (![0] : Fin 1 → Fin SC.rank)) : IVec SC 32 := broadcastInDim SC ![0] h (iotaInDim SV 32 0)

/-- (row, index) for every position, each wrapped once where it is negative. -/
def pairs (h0 : S0.BroadcastsInDim SC (![] : Fin 0 → Fin SC.rank)) (h1 : S0.BroadcastsInDim SR (![] : Fin 0 → Fin SR.rank))
    (h2 : SC.BroadcastsInDim SR (![0, 1] : Fin 2 → Fin SR.rank)) (h3 : SR.BroadcastsInDim SR1 (![0, 1] : Fin 2 → Fin SR1.rank))
    (hc : Shape.Concatenates [SR1, SR1] SP 2) (rows : IVec SC 32) (I : IVec SR 32) : IVec SP 32 :=
  concatenate SP 2
    [⟨SR1, broadcastInDim SR1 ![0, 1] h3 (broadcastInDim SR ![0, 1] h2 (select (cmpi .slt rows (broadcastInDim SC ![] h0 (constantI S0 32 0#32)))
        (addi rows (broadcastInDim SC ![] h0 (constantI S0 32 768#32))) rows))⟩,
     ⟨SR1, broadcastInDim SR1 ![0, 1] h3 (select (cmpi .slt I (broadcastInDim SR ![] h1 (constantI S0 32 0#32)))
        (addi I (broadcastInDim SR ![] h1 (constantI S0 32 36864#32))) I)⟩] hc

variable {h0 : S0.BroadcastsInDim SC (![] : Fin 0 → Fin SC.rank)} {h1 : S0.BroadcastsInDim SR (![] : Fin 0 → Fin SR.rank)}
  {h2 : SC.BroadcastsInDim SR (![0, 1] : Fin 2 → Fin SR.rank)} {h3 : SR.BroadcastsInDim SR1 (![0, 1] : Fin 2 → Fin SR1.rank)}
  {hc : Shape.Concatenates [SR1, SR1] SP 2} {hb : SV.BroadcastsInDim SC (![0] : Fin 1 → Fin SC.rank)}

theorem rowsOf_at (a : Fin 768) : rowsOf hb (ix2 a 0) = BitVec.ofNat 32 a.val := by
  refine (broadcastInDim_apply _ hb _ (ix2 a 0) (ix1 a) fun q => ?_).trans ?_
  · rw [Subsingleton.elim q 0]; rfl
  · rfl

theorem bcast_rows (x : IVec SR 32) (a : Fin 768) (b : Fin 9216) : broadcastInDim SR1 ![0, 1] h3 x (ix3 a b 0) = x (ix2 a b) :=
  broadcastInDim_apply _ h3 x (ix3 a b 0) (ix2 a b) fun q => by
    match q with
    | ⟨0, _⟩ => rfl
    | ⟨1, _⟩ => rfl

theorem pairs_row (I : IVec SR 32) (a : Fin 768) (b : Fin 9216) : pairs h0 h1 h2 h3 hc (rowsOf hb) I (ix3 a b 0) = BitVec.ofNat 32 a.val := by
  unfold pairs
  rw [concatenate_pair_apply_left (t := SP) (s₁ := SR1) (s₂ := SR1) 2 _ _ hc (ix3 a b 0) rfl (ix3 a b 0) (fun q => by
    match q with
    | ⟨0, _⟩ => rfl
    | ⟨1, _⟩ => rfl
    | ⟨2, _⟩ => rfl), bcast_rows]
  rw [broadcastInDim_apply _ h2 _ (ix2 a b) (ix2 a 0) fun q => by
    match q with
    | ⟨0, _⟩ => rfl
    | ⟨1, _⟩ => rfl]
  show Scalar.select (IntOp.cmpi .slt (rowsOf hb (ix2 a 0)) 0#32) _ (rowsOf hb (ix2 a 0)) = _
  rw [rowsOf_at]
  refine wrap_of_lt _ _ ?_
  rw [BitVec.toNat_ofNat]
  have := a.isLt
  omega

theorem pairs_word (I : IVec SR 32) (rows : IVec SC 32) (a : Fin 768) (b : Fin 9216) (hI : (I (ix2 a b)).toNat < 36864) :
    pairs h0 h1 h2 h3 hc rows I (ix3 a b 1) = I (ix2 a b) := by
  unfold pairs
  rw [concatenate_pair_apply_right (t := SP) (s₁ := SR1) (s₂ := SR1) 2 _ _ hc (ix3 a b 1) rfl rfl (ix3 a b 0) (fun q hq => by
    match q with
    | ⟨0, _⟩ => rfl
    | ⟨1, _⟩ => rfl
    | ⟨2, _⟩ => exact absurd rfl hq) rfl, bcast_rows]
  show Scalar.select (IntOp.cmpi .slt (I (ix2 a b)) 0#32) _ (I (ix2 a b)) = _
  exact wrap_of_lt _ _ (by omega)

/-! ## Where an update lands, and what is read back -/

section At

variable {α : Type} (d : ScatterDims SO SP SR) (hiw : d.insertedWindowDims = [0, 1]) (hsd : d.scatterDimsToOperandDims = [0, 1]) (hivd : d.indexVectorDim = 2)
  (P : IVec SP 32) (I : IVec SR 32) (hI : ∀ i, (I i).toNat < 36864)
  (hrow : ∀ (a : Fin 768) (b : Fin 9216), P (ix3 a b 0) = BitVec.ofNat 32 a.val) (hword : ∀ (a : Fin 768) (b : Fin 9216), P (ix3 a b 1) = I (ix2 a b))

include hrow in
theorem row_toInt (a : Fin 768) (b : Fin 9216) : (P (ix3 a b 0)).toInt = (a.val : Int) := by
  rw [hrow, BitVec.toInt_eq_toNat_cond, BitVec.toNat_ofNat]
  have := a.isLt
  omega

include hI hword in
theorem word_toInt (a : Fin 768) (b : Fin 9216) : (P (ix3 a b 1)).toInt = ((I (ix2 a b)).toNat : Int) := by
  rw [hword, BitVec.toInt_eq_toNat_cond]
  have := hI (ix2 a b)
  omega

include hiw hsd hivd hI hrow hword in
theorem lands (a : Fin 768) (b : Fin 9216) (r : Fin 768) (e : Fin 36864) :
    d.resultIdx? (ix2 a b) P = some (ix2 r e) ↔ a = r ∧ (I (ix2 a b)).toNat = e.val := by
  refine (scatter_lands2 d hiw hsd hivd P a b r e).trans ?_
  rw [row_toInt P hrow, word_toInt P I hI hword, Fin.ext_iff]
  omega

include hiw hsd hivd hI hrow hword in
/-- An element no position names keeps what was there. -/
theorem set_miss (z : SO.Idx → α) (X : SR.Idx → α) (r : Fin 768) (e : Fin 36864) (h : ∀ k : Fin 9216, (I (ix2 r k)).toNat ≠ e.val) :
    Host.scatter d (fun _ b => b) z P X (ix2 r e) = z (ix2 r e) := by
  refine scatter_set_miss d z P X (ix2 r e) fun k hk => ?_
  obtain ⟨a, b, rfl⟩ : ∃ (a : Fin 768) (b : Fin 9216), k = ix2 a b := ⟨k 0, k 1, eq_ix2 k⟩
  obtain ⟨rfl, hb⟩ := (lands d hiw hsd hivd P I hI hrow hword a b r e).1 hk
  exact h b hb

/-- A sum of words none above one, fewer of them than there are words, is at least its start, and more than it if it counts a nonzero one. -/
theorem fold_count {ι : Type} (p : ι → Prop) [DecidablePred p] (u : ι → BitVec 32) (hu : ∀ n, (u n).toNat ≤ 1) (l : List ι) (a : BitVec 32)
    (hl : a.toNat + l.length < 2 ^ 32) :
    a.toNat ≤ (l.foldl (fun a n => if p n then IntOp.addi a (u n) else a) a).toNat
      ∧ ∀ n ∈ l, p n → u n ≠ 0#32 → a.toNat < (l.foldl (fun a n => if p n then IntOp.addi a (u n) else a) a).toNat := by
  induction l generalizing a with
  | nil => exact ⟨le_refl _, fun n hn => absurd hn List.not_mem_nil⟩
  | cons x l ih =>
    rw [List.length_cons] at hl
    rw [List.foldl_cons]
    have hx := hu x
    have hadd : (IntOp.addi a (u x)).toNat = a.toNat + (u x).toNat := by
      show (a + u x).toNat = _
      rw [BitVec.toNat_add]
      omega
    have hstep : a.toNat ≤ (if p x then IntOp.addi a (u x) else a).toNat ∧ (if p x then IntOp.addi a (u x) else a).toNat ≤ a.toNat + 1 := by
      split
      · rw [hadd]; omega
      · omega
    obtain ⟨i1, i2⟩ := ih (if p x then IntOp.addi a (u x) else a) (by omega)
    refine ⟨hstep.1.trans i1, fun n hn hp hne => ?_⟩
    rcases List.mem_cons.1 hn with rfl | hn
    · refine lt_of_lt_of_le ?_ i1
      rw [if_pos hp, hadd]
      have : (u n).toNat ≠ 0 := fun h => hne (BitVec.eq_of_toNat_eq h)
      omega
    · exact lt_of_le_of_lt hstep.1 (i2 n hn hp hne)

include hiw hsd hivd hI hrow hword in
/-- Where the count is zero, every position that names the element counted zero. -/
theorem count_zero (U : IVec SR 32) (hU : ∀ i, (U i).toNat ≤ 1) (z : IVec SO 32) (hz : ∀ i, z i = 0#32) (r : Fin 768) (e : Fin 36864)
    (h : Host.scatter d IntOp.addi z P U (ix2 r e) = 0#32) (k : Fin 9216) (hk : (I (ix2 r k)).toNat = e.val) : U (ix2 r k) = 0#32 := by
  by_contra hne
  rw [scatter_at] at h
  have hlen : (List.finRange SR.numel).length < 2 ^ 32 := by
    rw [List.length_finRange, Shape.numel_rank2]; decide
  have := (fold_count (fun n => d.resultIdx? (SR.rowMajor.symm n) P = some (ix2 r e)) (fun n => U (SR.rowMajor.symm n)) (fun _ => hU _)
    (List.finRange SR.numel) (z (ix2 r e)) (by rw [hz]; simpa using hlen)).2 (SR.rowMajor (ix2 r k)) (List.mem_finRange _)
    (by rw [Equiv.symm_apply_apply]; exact (lands d hiw hsd hivd P I hI hrow hword r k r e).2 ⟨rfl, hk⟩)
    (by rw [Equiv.symm_apply_apply]; exact hne)
  rw [h] at this
  exact absurd this (Nat.not_lt_zero _)

end At

/-! ## The read-back -/

/-- A gather of scalars from a matrix by pairs of index words. -/
abbrev pairDims (R C A B : ℕ) (wf : GatherDims.WF ⟨2, ![R, C]⟩ ⟨3, ![A, B, 2]⟩ ⟨2, ![A, B]⟩ [] [0, 1] [] [0, 1] [] 2 ![1, 1]) :
    GatherDims ⟨2, ![R, C]⟩ ⟨3, ![A, B, 2]⟩ ⟨2, ![A, B]⟩ where
  offsetDims := []
  collapsedSliceDims := [0, 1]
  operandBatchingDims := []
  startIndicesBatchingDims := []
  startIndexMap := [0, 1]
  indexVectorDim := 2
  sliceSizes := ![1, 1]
  wf := wf

theorem gather_pair {α : Type} {R C A B : ℕ} (wf : GatherDims.WF ⟨2, ![R, C]⟩ ⟨3, ![A, B, 2]⟩ ⟨2, ![A, B]⟩ [] [0, 1] [] [0, 1] [] 2 ![1, 1])
    (x : (⟨2, ![R, C]⟩ : Shape).Idx → α) (P : IVec ⟨3, ![A, B, 2]⟩ 32) (a : Fin A) (b : Fin B) (r : Fin R) (c : Fin C)
    (hr : (P (ix3 a b 0)).toInt = (r.val : Int)) (hc : (P (ix3 a b 1)).toInt = (c.val : Int)) :
    Host.gather (pairDims R C A B wf) x P (ix2 a b) = x (ix2 r c) := by
  unfold Host.gather
  refine congrArg x (funext fun q => Fin.ext ?_)
  have hm : ∀ q : Fin 2, q ∈ ([0, 1] : List (Fin 2)) := by decide
  show (pairDims R C A B wf).start (ix2 a b) P q + (pairDims R C A B wf).batchCoord (ix2 a b) q + (pairDims R C A B wf).offCoord (ix2 a b) q = _
  rw [GatherDims.batchCoord_eq_zero _ _ _ List.not_mem_nil,
    GatherDims.offCoord_eq_zero _ _ _ (fun h => ((GatherDims.mem_sKept _ _).mp h).1 (hm q))]
  show (pairDims R C A B wf).start (ix2 a b) P q = _
  unfold GatherDims.start
  rw [dif_pos (hm q)]
  have hsi : ∀ q : Fin 2, (pairDims R C A B wf).siIdx (ix2 a b) ⟨List.idxOf q (pairDims R C A B wf).startIndexMap, List.idxOf_lt_length_iff.2 (hm q)⟩ = ix3 a b q := by
    intro q
    funext y; refine Fin.ext ?_
    match y with
    | ⟨0, _⟩ => rfl
    | ⟨1, _⟩ => rfl
    | ⟨2, _⟩ => match q with
      | ⟨0, _⟩ => rfl
      | ⟨1, _⟩ => rfl
  rw [hsi]
  match q with
  | ⟨0, _⟩ =>
    show min (P (ix3 a b 0)).toInt.toNat (R - 1) = r.val
    rw [hr]
    have := r.isLt
    omega
  | ⟨1, _⟩ =>
    show min (P (ix3 a b 1)).toInt.toNat (C - 1) = c.val
    rw [hc]
    have := c.isLt
    omega

/-! ## The mask -/

/-- Two extended reals the comparison does not tell apart are equal. -/
theorem eq_of_une {a b : Ideal .f32} (h : (FloatOps.cmpf (F := Ideal) .une a b).zeroExtend 32 = 0#32) : a = b := by
  have h0 : ∀ b : BitVec 1, b.zeroExtend 32 = 0#32 → b = 0#1 := by decide
  have h := h0 _ h
  by_contra hne
  have : FloatOps.cmpf (F := Ideal) .une a b = 1#1 := by
    show BitVec.ofBool (decide (_ ≠ _)) = _
    rw [decide_eq_true hne]; rfl
  rw [this] at h
  exact absurd h (by decide)

/-- Where no position that names the element counts as differing, what is left there is the value of each of them. -/
theorem alike (d : ScatterDims SO SP SR) (hiw : d.insertedWindowDims = [0, 1]) (hsd : d.scatterDimsToOperandDims = [0, 1]) (hivd : d.indexVectorDim = 2)
    (wf : GatherDims.WF SO SP SR [] [0, 1] [] [0, 1] [] 2 ![1, 1]) (hlt : 1 < 32)
    (P : IVec SP 32) (I : IVec SR 32) (hI : ∀ i, (I i).toNat < 36864)
    (hrow : ∀ (a : Fin 768) (b : Fin 9216), P (ix3 a b 0) = BitVec.ofNat 32 a.val) (hword : ∀ (a : Fin 768) (b : Fin 9216), P (ix3 a b 1) = I (ix2 a b))
    (R : FVec Ideal SO .f32) (X : FVec Ideal SR .f32) (z : IVec SO 32) (hz : ∀ i, z i = 0#32) (r : Fin 768) (e : Fin 36864)
    (h : Host.scatter d IntOp.addi z P (extui 32 (cmpf .une (Host.gather (pairDims 768 36864 768 9216 wf) R P) X) hlt) (ix2 r e) = 0#32)
    (k : Fin 9216) (hk : (I (ix2 r k)).toNat = e.val) : R (ix2 r e) = X (ix2 r k) := by
  have hU : ∀ i, (extui 32 (cmpf .une (Host.gather (pairDims 768 36864 768 9216 wf) R P) X) hlt i).toNat ≤ 1 := fun i => by
    have h : ∀ b : BitVec 1, (b.zeroExtend 32).toNat ≤ 1 := by decide
    exact h _
  have h0 := count_zero d hiw hsd hivd P I hI hrow hword _ hU z hz r e h k hk
  have hg : Host.gather (pairDims 768 36864 768 9216 wf) R P (ix2 r k) = R (ix2 r e) := by
    refine gather_pair wf R P r k r e (row_toInt P hrow r k) ?_
    rw [word_toInt P I hI hword, hk]
  rw [← hg]
  exact eq_of_une h0

end Cert.Proof.Ref

end
-- ==== Proof.Equal.lean ====
/-
  The kernel's result and the reference's agree at every element whose naming positions hold one value.
-/
module

public import proofs.«01_k».proof.Proof.IdealFrame
public import proofs.«01_k».proof.Proof.Pre
public import proofs.«01_k».proof.Proof.Ref
public import proofs.«01_k».proof.On_named_alike
public import proofs.«01_k».proof.Proof.Gen.On_named_alike
public import proofs.«01_k».proof.Proof.Gen.Pre_idx_in_range
public import proofs.«01_k».proof.Proof.Gen.ReferenceIdeal.Run

@[expose] public section

noncomputable section

namespace Cert.Proof.Equal

open Idealize.ShloMosaic
open Cert.Proof.Ref (SV SC SR SR1 SP SO S0 pairs rowsOf pairs_row pairs_word)

abbrev SX : Shape := ⟨4, ![4, 192, 96, 96]⟩
abbrev SY : Shape := ⟨4, ![4, 192, 192, 192]⟩

variable (x : FVec Ideal SX .f32) (I : IVec SX 32) (x1 : FVec Ideal SY .f32)

/-- The values and the indices, a row per plane. -/
def X : FVec Ideal SR .f32 := shapeCast SR x Cert.ReferenceIdeal.Facts₀.shapeCasts_S4x192x96x96_S768x9216
def J : IVec SR 32 := shapeCast SR I Cert.ReferenceIdeal.Facts₀.shapeCasts_S4x192x96x96_S768x9216

def P : IVec SP 32 := pairs Cert.ReferenceIdeal.Facts₀.bcast_S_S768x1 Cert.ReferenceIdeal.Facts₀.bcast_S_S768x9216
  Cert.ReferenceIdeal.Facts₀.bcast_S768x1_S768x9216_0_1 Cert.ReferenceIdeal.Facts₀.bcast_S768x9216_S768x9216x1_0_1
  Cert.ReferenceIdeal.Facts₀.concatenates_S768x9216x1_S768x9216x1_S768x9216x2_d2 (rowsOf Cert.ReferenceIdeal.Facts₀.bcast_S768_S768x1_0) (J I)

def zeros : FVec Ideal SO .f32 := broadcastInDim SO ![] Cert.ReferenceIdeal.Facts₀.bcast_S_S768x36864 (constant S0 .f32 0x00000000#32)

/-- The reference's scatter. -/
def R : FVec Ideal SO .f32 :=
  Host.scatter Cert.ReferenceIdeal.scatter_S768x36864_S768x9216x2_S768x9216_n_01_01_2 (fun _ b => b) zeros (P I) (X x)

variable (hI : ∀ i, (I i).toNat < 36864)

include hI in
theorem hJ (i : SR.Idx) : (J I i).toNat < 36864 := hI _

theorem P_row (a : Fin 768) (b : Fin 9216) : P I (ValueIdx.ix3 a b 0) = BitVec.ofNat 32 a.val := pairs_row (J I) a b
include hI in
theorem P_word (a : Fin 768) (b : Fin 9216) : P I (ValueIdx.ix3 a b 1) = J I (ValueIdx.ix2 a b) := pairs_word (J I) _ a b (hJ I hI _)

include hI in
theorem R_miss (r : Fin 768) (e : Fin 36864) (h : ∀ k : Fin 9216, (J I (ValueIdx.ix2 r k)).toNat ≠ e.val) :
    R x I (ValueIdx.ix2 r e) = Scalar.ofBits .f32 0x00000000#32 :=
  (Ref.set_miss Cert.ReferenceIdeal.scatter_S768x36864_S768x9216x2_S768x9216_n_01_01_2 rfl rfl rfl (P I) (J I) (hJ I hI) (P_row I) (P_word I hI)
    zeros (X x) r e h).trans rfl

/-- How many positions that name each element differ from what the reference leaves there. -/
def count : IVec SO 32 :=
  Host.scatter Cert.On_named_alike.scatter_S768x36864_S768x9216x2_S768x9216_n_01_01_2 IntOp.addi
    (broadcastInDim SO ![] Cert.On_named_alike.Facts.bcast_S_S768x36864 (constantI S0 32 0#32)) (P I)
    (extui 32 (cmpf .une (Host.gather Cert.On_named_alike.gather_S768x36864_S768x9216x2_S768x9216_n_01_n_n_01_2_11 (R x I) (P I)) (X x))
      Cert.On_named_alike.Facts.natLt_1_32)

theorem mask_eq : Cert.On_named_alike.fn (F := Ideal) x I x1
    = cmpi .eq (shapeCast SY (count x I) Cert.On_named_alike.Facts.shapeCasts_S768x36864_S4x192x192x192)
      (broadcastInDim SY ![] Cert.On_named_alike.Facts.bcast_S_S4x192x192x192 (constantI S0 32 0#32)) := rfl

include hI in
/-- Where the count is zero, the reference leaves the value of every position that names the element. -/
theorem R_alike (r : Fin 768) (e : Fin 36864) (h : count x I (ValueIdx.ix2 r e) = 0#32)
    (k : Fin 9216) (hk : (J I (ValueIdx.ix2 r k)).toNat = e.val) : R x I (ValueIdx.ix2 r e) = X x (ValueIdx.ix2 r k) :=
  Ref.alike Cert.On_named_alike.scatter_S768x36864_S768x9216x2_S768x9216_n_01_01_2 rfl rfl rfl
    Cert.On_named_alike.Facts.gather_S768x36864_S768x9216x2_S768x9216_n_01_n_n_01_2_11_wf Cert.On_named_alike.Facts.natLt_1_32
    (P I) (J I) (hJ I hI) (P_row I) (P_word I hI) (R x I) (X x)
    (broadcastInDim SO ![] Cert.On_named_alike.Facts.bcast_S_S768x36864 (constantI S0 32 0#32)) (fun _ => rfl) r e h k hk

theorem zero_of_eq {v : BitVec 32} (h : IntOp.cmpi .eq v 0#32 = 1#1) : v = 0#32 := by
  have h1 : ∀ p : Bool, BitVec.ofBool p = 1#1 → p = true := by decide
  exact beq_iff_eq.1 (h1 _ h)

/-- The result's elements, by plane row and column. -/
theorem rowcol (i : SY.Idx) : ∃ (r : Fin 768) (e : Fin 36864), (SO.rowMajor (ValueIdx.ix2 r e)).val = (SY.rowMajor i).val := by
  have hlt : (SY.rowMajor i).val < 28311552 := lt_of_lt_of_eq (SY.rowMajor i).isLt (by decide)
  refine ⟨⟨(SY.rowMajor i).val / 36864, by omega⟩, ⟨(SY.rowMajor i).val % 36864, Nat.mod_lt _ (by decide)⟩, ?_⟩
  rw [Shape.rowMajor_val_two]
  exact Nat.div_add_mod' _ _

open Cert.KernelIdeal in
open Idealize.ShloMosaic.TcCoe in
/-- Where the mask is set, the kernel's result is the reference's. -/
theorem agree (m : (ℓ : Loc nD τ sig) → Buf (Elt Ideal) ℓ) (c : Dev nD)
    (hx : m (c, (main_arg0 : DevRef τ sig)) = x) (hi : m (c, (main_arg1 : DevRef τ sig)) = I) (i : SY.Idx)
    (hI : ∀ i, (I i).toNat < 36864)
    (h : Cert.On_named_alike.fn (F := Ideal) x I x1 i = 1#1) (q : SO.ShapeCasts SY) (q' : SO.ShapeCasts SY) :
    shapeCast SY (KernelIdeal.outV (KernelIdeal.KS m c) (KernelIdeal.VS m c)) q i = shapeCast SY (R x I) q' i := by
  obtain ⟨r, e, hre⟩ := rowcol i
  rw [mask_eq] at h
  have h := zero_of_eq h
  rw [shapeCast_apply _ _ i (ValueIdx.ix2 r e) hre] at h
  rw [shapeCast_apply _ q i (ValueIdx.ix2 r e) hre, shapeCast_apply _ q' i (ValueIdx.ix2 r e) hre]
  have hJe : KernelIdeal.IX m c = J I := congrArg (fun z => shapeCast SR z Cert.ReferenceIdeal.Facts₀.shapeCasts_S4x192x96x96_S768x9216) hi
  have hXe : KernelIdeal.AX m c = X x := congrArg (fun z => shapeCast SR z Cert.ReferenceIdeal.Facts₀.shapeCasts_S4x192x96x96_S768x9216) hx
  have hX : ∀ i, (KernelIdeal.IX m c i).toNat < 36864 := fun i => by rw [hJe]; exact hJ I hI i
  by_cases hk : ∃ k : Fin 9216, (J I (ValueIdx.ix2 r k)).toNat = e.val
  · obtain ⟨k, hk⟩ := hk
    obtain ⟨k', hk', hv⟩ := KernelIdeal.out_hit m c hX r e k (by rw [hJe]; exact hk)
    rw [hJe] at hk'
    rw [hv, hXe]
    exact (R_alike x I hI r e h k' hk').symm
  · have hk : ∀ k : Fin 9216, (J I (ValueIdx.ix2 r k)).toNat ≠ e.val := fun k h => hk ⟨k, h⟩
    rw [KernelIdeal.out_miss m c hX r e (by rw [hJe]; exact hk)]
    exact (R_miss x I hI r e hk).symm

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_idx_in_range
public import proofs.«01_k».proof.Proof.Gen.On_named_alike
public import proofs.«01_k».proof.Proof.Frame
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

theorem frame_p : Cert.quiescent_Kernel := fun m ρ hpre =>
  (θ_run Cert.Kernel.defs _ _).mono (fun _ h => ⟨h.2.1, h.2.2⟩)
    (Kernel.run_value m ρ fun d i => Pre.in_range_cast (hpre d) _ i)

theorem frame_i : Cert.quiescent_KernelIdeal := fun m ρ hpre =>
  (θ_run Cert.KernelIdeal.defs _ _).mono (fun _ h => ⟨h.2.1, h.2.2⟩)
    (KernelIdeal.run_value m ρ fun d i => Pre.in_range_cast (hpre d) _ i)

theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_r' : Cert.quiescent_ReferenceIdeal_pre_idx_in_range := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result on a device. -/
def result (m : (ℓ : Loc Cert.KernelIdeal.nD Cert.KernelIdeal.τ Cert.KernelIdeal.sig) → Buf (Elt Ideal) ℓ) (c : Dev Cert.KernelIdeal.nD) : FVec Ideal Equal.SY .f32 :=
  shapeCast Equal.SY (KernelIdeal.outV (KernelIdeal.KS m c) (KernelIdeal.VS m c)) Cert.KernelIdeal.Facts₀.shapeCasts_S768x36864_S4x192x192x192

theorem algebraic : Cert.algebraic_KernelIdeal_ReferenceIdeal_on_named_alike := by
  intro m ρ m' ρ' hpre hagree
  refine ⟨fun c => result m c, ?_, ?_⟩
  · exact (θ_run Cert.KernelIdeal.defs _ _).mono (fun _ h c => ⟨fun i _ => congrFun (h.1 c) i, h.2.1 c⟩)
      (KernelIdeal.run_value m ρ fun d i => Pre.in_range_cast (hpre d) _ i)
  · refine (θ_run Cert.ReferenceIdeal.defs _ _).mono (fun _ h c => ⟨fun i hi => (congrFun (h c).1 i).trans ?_, (h c).2⟩)
      (Cert.ReferenceIdeal.Value.run (F := Ideal) m' ρ')
    rw [(hagree c).1, (hagree c).2.1]
    exact (Equal.agree _ _ _ m c rfl rfl i (fun i => Pre.in_range (hpre c) i) hi _ _).symm

theorem claim : Cert.Claim :=
  ⟨Cert.Kernel.Gen.facts, Cert.KernelIdeal.Gen.facts, Cert.ReferenceIdeal.Gen.facts, Cert.Pre_idx_in_range.Gen.facts, Cert.On_named_alike.Gen.facts,
    frame_p, frame_i, frame_r, frame_r', trivial, algebraic⟩

end Cert.Proof

end
